-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S2x384x384 : Shape := ⟨3, ![2, 384, 384]⟩
abbrev S6 : Shape := ⟨1, ![6]⟩
abbrev S5 : Shape := ⟨1, ![5]⟩
abbrev S_ : Shape := ⟨0, ![]⟩
abbrev S384x768 : Shape := ⟨2, ![384, 768]⟩
abbrev S768x384 : Shape := ⟨2, ![768, 384]⟩
abbrev S384x384 : Shape := ⟨2, ![384, 384]⟩
abbrev S1x384x384 : Shape := ⟨3, ![1, 384, 384]⟩
abbrev S1 : Shape := ⟨1, ![1]⟩
abbrev S384x1536 : Shape := ⟨2, ![384, 1536]⟩
abbrev S768x768 : Shape := ⟨2, ![768, 768]⟩

abbrev nBuf : Space → Nat
  | .hbm => 3
  | .vmem => 7
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S2x384x384, .f32⟩
  | .local _ .vmem, ⟨4, _⟩ => ⟨S2x384x384, .f32⟩
  | .local _ .vmem, ⟨5, _⟩ => ⟨S2x384x384, .f32⟩
  | .local _ .vmem, ⟨6, _⟩ => ⟨S2x384x384, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 21 51 bufScoped semScoped dmaSemScoped tileCredit tileCredit_eq_zero tileCredit_pos).withBarriers [(0, 20)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 20

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_6 : BitVec 32 := 1#32
  let v10 : BitVec 32 := Scalar.muli v5 c1_i32_6
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_8 : BitVec 32 := 1#32
  let v12 : BitVec 32 := Scalar.muli v8 c1_i32_8
  let v13 : BitVec 32 := Scalar.addi c0_i32_9 v12
  v13.toNat
def k0_off1 (d0 : Dev nD) (c1_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.subi v2 c1_i32_10
  let c8_i32_11 : BitVec 32 := 8#32
  let v15 : BitVec 32 := Scalar.addi v14 c8_i32_11
  let c4_i32_12 : BitVec 32 := 4#32
  let v16 : BitVec 32 := Scalar.remsi v15 c4_i32_12
  let c384_i32 : BitVec 32 := 384#32
  let v17 : BitVec 32 := Scalar.muli v16 c384_i32
  let v18 : Index := Scalar.indexCast v17
  let c0 : Index := 0#32
  ![v18.toNat, 0]
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_22 : BitVec 32 := 1#32
  let v27 : BitVec 32 := Scalar.muli v8 c1_i32_22
  let v28 : BitVec 32 := Scalar.addi c0_i32_23 v27
  v28.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_41 : BitVec 32 := 1#32
  let v50 : BitVec 32 := Scalar.muli v5 c1_i32_41
  let v51 : BitVec 32 := Scalar.addi c0_i32_42 v50
  v51.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_61 : BitVec 32 := 1#32
  let v73 : BitVec 32 := Scalar.muli v8 c1_i32_61
  let v74 : BitVec 32 := Scalar.addi c0_i32_62 v73
  v74.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_81 : BitVec 32 := 1#32
  let v96 : BitVec 32 := Scalar.muli v5 c1_i32_81
  let v97 : BitVec 32 := Scalar.addi c0_i32_82 v96
  v97.toNat
def k0_off2 (d0 : Dev nD) (c2_i32_87 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c2_i32_87
  let c8_i32_88 : BitVec 32 := 8#32
  let v107 : BitVec 32 := Scalar.addi v106 c8_i32_88
  let c4_i32_89 : BitVec 32 := 4#32
  let v108 : BitVec 32 := Scalar.remsi v107 c4_i32_89
  let c384_i32_90 : BitVec 32 := 384#32
  let v109 : BitVec 32 := Scalar.muli v108 c384_i32_90
  let v110 : Index := Scalar.indexCast v109
  let c0_91 : Index := 0#32
  ![v110.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v106 : BitVec 32 := Scalar.addi v2 c2_i32_87
  let c8_i32_88 : BitVec 32 := 8#32
  let v107 : BitVec 32 := Scalar.addi v106 c8_i32_88
  let c4_i32_89 : BitVec 32 := 4#32
  let v108 : BitVec 32 := Scalar.remsi v107 c4_i32_89
  let c384_i32_95 : BitVec 32 := 384#32
  let v116 : BitVec 32 := Scalar.muli v108 c384_i32_95
  let v117 : Index := Scalar.indexCast v116
  let c0_96 : Index := 0#32
  ![v117.toNat, 0]
def k0_dev7 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_118 : BitVec 32 := 1#32
  let v135 : BitVec 32 := Scalar.muli v5 c1_i32_118
  let v136 : BitVec 32 := Scalar.addi c0_i32_119 v135
  v136.toNat
def k0_dev8 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_141 : BitVec 32 := 1#32
  let v153 : BitVec 32 := Scalar.muli v8 c1_i32_141
  let v154 : BitVec 32 := Scalar.addi c0_i32_142 v153
  v154.toNat
def k0_off4 (d0 : Dev nD) (c2_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v155 : BitVec 32 := Scalar.subi v2 c2_i32_143
  let c8_i32_144 : BitVec 32 := 8#32
  let v156 : BitVec 32 := Scalar.addi v155 c8_i32_144
  let c4_i32_145 : BitVec 32 := 4#32
  let v157 : BitVec 32 := Scalar.remsi v156 c4_i32_145
  let c384_i32_148 : BitVec 32 := 384#32
  let v160 : BitVec 32 := Scalar.muli v157 c384_i32_148
  let v161 : Index := Scalar.indexCast v160
  let c0_149 : Index := 0#32
  ![v161.toNat, 0]
def k0_off5 (d0 : Dev nD) (c_m2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v168 : BitVec 32 := Scalar.subi v2 c_m2_i32
  let c8_i32_153 : BitVec 32 := 8#32
  let v169 : BitVec 32 := Scalar.addi v168 c8_i32_153
  let c4_i32_154 : BitVec 32 := 4#32
  let v170 : BitVec 32 := Scalar.remsi v169 c4_i32_154
  let c384_i32_158 : BitVec 32 := 384#32
  let v173 : BitVec 32 := Scalar.muli v170 c384_i32_158
  let v174 : Index := Scalar.indexCast v173
  let c768_159 : Index := 768#32
  ![v174.toNat, 768]
def k0_dev9 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_170 : BitVec 32 := 1#32
  let v183 : BitVec 32 := Scalar.muli v8 c1_i32_170
  let v184 : BitVec 32 := Scalar.addi c0_i32_171 v183
  v184.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_183 : BitVec 32 := 1#32
  let v195 : BitVec 32 := Scalar.muli v5 c1_i32_183
  let v196 : BitVec 32 := Scalar.addi c0_i32_184 v195
  v196.toNat
def k0_dev11 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_210 : BitVec 32 := 1#32
  let v221 : BitVec 32 := Scalar.muli v5 c1_i32_210
  let v222 : BitVec 32 := Scalar.addi c0_i32_211 v221
  v222.toNat
def k0_dev12 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_233 : BitVec 32 := 1#32
  let v239 : BitVec 32 := Scalar.muli v8 c1_i32_233
  let v240 : BitVec 32 := Scalar.addi c0_i32_234 v239
  v240.toNat
def k0_off6 (d0 : Dev nD) (c2_i32_235 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.subi v2 c2_i32_235
  let c8_i32_236 : BitVec 32 := 8#32
  let v242 : BitVec 32 := Scalar.addi v241 c8_i32_236
  let c4_i32_237 : BitVec 32 := 4#32
  let v243 : BitVec 32 := Scalar.remsi v242 c4_i32_237
  let c384_i32_241 : BitVec 32 := 384#32
  let v246 : BitVec 32 := Scalar.muli v243 c384_i32_241
  let v247 : Index := Scalar.indexCast v246
  let c384_242 : Index := 384#32
  ![v247.toNat, 384]
def k0_off7 (d0 : Dev nD) (c_m2_i32_246 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v254 : BitVec 32 := Scalar.subi v2 c_m2_i32_246
  let c8_i32_247 : BitVec 32 := 8#32
  let v255 : BitVec 32 := Scalar.addi v254 c8_i32_247
  let c4_i32_248 : BitVec 32 := 4#32
  let v256 : BitVec 32 := Scalar.remsi v255 c4_i32_248
  let c384_i32_252 : BitVec 32 := 384#32
  let v259 : BitVec 32 := Scalar.muli v256 c384_i32_252
  let v260 : Index := Scalar.indexCast v259
  let c1152_253 : Index := 1152#32
  ![v260.toNat, 1152]
def k0_dev13 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_264 : BitVec 32 := 1#32
  let v269 : BitVec 32 := Scalar.muli v8 c1_i32_264
  let v270 : BitVec 32 := Scalar.addi c0_i32_265 v269
  v270.toNat
def k0_dev14 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_277 : BitVec 32 := 1#32
  let v281 : BitVec 32 := Scalar.muli v5 c1_i32_277
  let v282 : BitVec 32 := Scalar.addi c0_i32_278 v281
  v282.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_283 : BitVec 32 := 1#32
  let v291 : BitVec 32 := Scalar.addi v2 c1_i32_283
  let c8_i32_284 : BitVec 32 := 8#32
  let v292 : BitVec 32 := Scalar.addi v291 c8_i32_284
  let c4_i32_285 : BitVec 32 := 4#32
  let v293 : BitVec 32 := Scalar.remsi v292 c4_i32_285
  let c384_i32_294 : BitVec 32 := 384#32
  let v304 : BitVec 32 := Scalar.muli v293 c384_i32_294
  let v305 : Index := Scalar.indexCast v304
  let c0_295 : Index := 0#32
  ![v305.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_286 : BitVec 32 := 1#32
  let v294 : BitVec 32 := Scalar.subi v2 c1_i32_286
  let c8_i32_287 : BitVec 32 := 8#32
  let v295 : BitVec 32 := Scalar.addi v294 c8_i32_287
  let c4_i32_288 : BitVec 32 := 4#32
  let v296 : BitVec 32 := Scalar.remsi v295 c4_i32_288
  let c384_i32_301 : BitVec 32 := 384#32
  let v314 : BitVec 32 := Scalar.muli v296 c384_i32_301
  let v315 : Index := Scalar.indexCast v314
  let c768_302 : Index := 768#32
  ![v315.toNat, 768]
def k0_dev15 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_324 : BitVec 32 := 1#32
  let v333 : BitVec 32 := Scalar.muli v5 c1_i32_324
  let v334 : BitVec 32 := Scalar.addi c0_i32_325 v333
  v334.toNat
def k0_dev16 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_347 : BitVec 32 := 1#32
  let v351 : BitVec 32 := Scalar.muli v8 c1_i32_347
  let v352 : BitVec 32 := Scalar.addi c0_i32_348 v351
  v352.toNat
def k0_dev17 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_376 : BitVec 32 := 1#32
  let v381 : BitVec 32 := Scalar.muli v8 c1_i32_376
  let v382 : BitVec 32 := Scalar.addi c0_i32_377 v381
  v382.toNat
def k0_dev18 (d0 : Dev nD) : Nat :=
  let c0_i32_390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_389 : BitVec 32 := 1#32
  let v393 : BitVec 32 := Scalar.muli v5 c1_i32_389
  let v394 : BitVec 32 := Scalar.addi c0_i32_390 v393
  v394.toNat
def k0_dev19 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_416 : BitVec 32 := 1#32
  let v419 : BitVec 32 := Scalar.muli v5 c1_i32_416
  let v420 : BitVec 32 := Scalar.addi c0_i32_417 v419
  v420.toNat
def k0_dev20 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_439 : BitVec 32 := 1#32
  let v437 : BitVec 32 := Scalar.muli v8 c1_i32_439
  let v438 : BitVec 32 := Scalar.addi c0_i32_440 v437
  v438.toNat
def k0_dev21 (d0 : Dev nD) : Nat :=
  let c0_i32_471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_470 : BitVec 32 := 1#32
  let v467 : BitVec 32 := Scalar.muli v8 c1_i32_470
  let v468 : BitVec 32 := Scalar.addi c0_i32_471 v467
  v468.toNat
def k0_dev22 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_483 : BitVec 32 := 1#32
  let v479 : BitVec 32 := Scalar.muli v5 c1_i32_483
  let v480 : BitVec 32 := Scalar.addi c0_i32_484 v479
  v480.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_489 : BitVec 32 := 384#32
  let v489 : BitVec 32 := Scalar.muli v2 c384_i32_489
  let v490 : Index := Scalar.indexCast v489
  let c0_490 : Index := 0#32
  ![v490.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_494 : BitVec 32 := 384#32
  let v496 : BitVec 32 := Scalar.muli v2 c384_i32_494
  let v497 : Index := Scalar.indexCast v496
  let c0_495 : Index := 0#32
  ![v497.toNat, 0]
def k0_dev23 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_517 : BitVec 32 := 1#32
  let v515 : BitVec 32 := Scalar.muli v5 c1_i32_517
  let v516 : BitVec 32 := Scalar.addi c0_i32_518 v515
  v516.toNat
def k0_dev24 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_540 : BitVec 32 := 1#32
  let v533 : BitVec 32 := Scalar.muli v8 c1_i32_540
  let v534 : BitVec 32 := Scalar.addi c0_i32_541 v533
  v534.toNat
def k0_dev25 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_570 : BitVec 32 := 1#32
  let v563 : BitVec 32 := Scalar.muli v8 c1_i32_570
  let v564 : BitVec 32 := Scalar.addi c0_i32_571 v563
  v564.toNat
def k0_dev26 (d0 : Dev nD) : Nat :=
  let c0_i32_584 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_583 : BitVec 32 := 1#32
  let v575 : BitVec 32 := Scalar.muli v5 c1_i32_583
  let v576 : BitVec 32 := Scalar.addi c0_i32_584 v575
  v576.toNat
def k0_dev27 (d0 : Dev nD) : Nat :=
  let c0_i32_611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_610 : BitVec 32 := 1#32
  let v601 : BitVec 32 := Scalar.muli v5 c1_i32_610
  let v602 : BitVec 32 := Scalar.addi c0_i32_611 v601
  v602.toNat
def k0_dev28 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_633 : BitVec 32 := 1#32
  let v619 : BitVec 32 := Scalar.muli v8 c1_i32_633
  let v620 : BitVec 32 := Scalar.addi c0_i32_634 v619
  v620.toNat
def k0_dev29 (d0 : Dev nD) : Nat :=
  let c0_i32_665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_664 : BitVec 32 := 1#32
  let v649 : BitVec 32 := Scalar.muli v8 c1_i32_664
  let v650 : BitVec 32 := Scalar.addi c0_i32_665 v649
  v650.toNat
def k0_dev30 (d0 : Dev nD) : Nat :=
  let c0_i32_678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_677 : BitVec 32 := 1#32
  let v661 : BitVec 32 := Scalar.muli v5 c1_i32_677
  let v662 : BitVec 32 := Scalar.addi c0_i32_678 v661
  v662.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_686 : BitVec 32 := 384#32
  let v673 : BitVec 32 := Scalar.muli v2 c384_i32_686
  let v674 : Index := Scalar.indexCast v673
  let c0_687 : Index := 0#32
  ![v674.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_691 : BitVec 32 := 384#32
  let v678 : BitVec 32 := Scalar.muli v2 c384_i32_691
  let v679 : Index := Scalar.indexCast v678
  let c384_692 : Index := 384#32
  ![v679.toNat, 384]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_696 : BitVec 32 := 384#32
  let v683 : BitVec 32 := Scalar.muli v2 c384_i32_696
  let v684 : Index := Scalar.indexCast v683
  let c768_697 : Index := 768#32
  ![v684.toNat, 768]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_701 : BitVec 32 := 384#32
  let v688 : BitVec 32 := Scalar.muli v2 c384_i32_701
  let v689 : Index := Scalar.indexCast v688
  let c1152_702 : Index := 1152#32
  ![v689.toNat, 1152]
def k0_dev31 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_724 : BitVec 32 := 1#32
  let v707 : BitVec 32 := Scalar.muli v5 c1_i32_724
  let v708 : BitVec 32 := Scalar.addi c0_i32_725 v707
  v708.toNat
def k0_dev32 (d0 : Dev nD) : Nat :=
  let c0_i32_734 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_733 : BitVec 32 := 1#32
  let v711 : BitVec 32 := Scalar.muli v8 c1_i32_733
  let v712 : BitVec 32 := Scalar.addi c0_i32_734 v711
  v712.toNat
def k0_dev33 (d0 : Dev nD) : Nat :=
  let c0_i32_761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_760 : BitVec 32 := 1#32
  let v737 : BitVec 32 := Scalar.muli v8 c1_i32_760
  let v738 : BitVec 32 := Scalar.addi c0_i32_761 v737
  v738.toNat
def k0_dev34 (d0 : Dev nD) : Nat :=
  let c0_i32_770 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_769 : BitVec 32 := 1#32
  let v741 : BitVec 32 := Scalar.muli v5 c1_i32_769
  let v742 : BitVec 32 := Scalar.addi c0_i32_770 v741
  v742.toNat
def k0_dev35 (d0 : Dev nD) : Nat :=
  let c0_i32_813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_812 : BitVec 32 := 1#32
  let v783 : BitVec 32 := Scalar.muli v5 c1_i32_812
  let v784 : BitVec 32 := Scalar.addi c0_i32_813 v783
  v784.toNat
def k0_dev36 (d0 : Dev nD) : Nat :=
  let c0_i32_822 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_821 : BitVec 32 := 1#32
  let v787 : BitVec 32 := Scalar.muli v8 c1_i32_821
  let v788 : BitVec 32 := Scalar.addi c0_i32_822 v787
  v788.toNat
def k0_dev37 (d0 : Dev nD) : Nat :=
  let c0_i32_849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_848 : BitVec 32 := 1#32
  let v813 : BitVec 32 := Scalar.muli v8 c1_i32_848
  let v814 : BitVec 32 := Scalar.addi c0_i32_849 v813
  v814.toNat
def k0_dev38 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_857 : BitVec 32 := 1#32
  let v817 : BitVec 32 := Scalar.muli v5 c1_i32_857
  let v818 : BitVec 32 := Scalar.addi c0_i32_858 v817
  v818.toNat
def k0_dev39 (d0 : Dev nD) : Nat :=
  let c0_i32_901 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_900 : BitVec 32 := 1#32
  let v859 : BitVec 32 := Scalar.muli v5 c1_i32_900
  let v860 : BitVec 32 := Scalar.addi c0_i32_901 v859
  v860.toNat
def k0_dev40 (d0 : Dev nD) : Nat :=
  let c0_i32_909 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_908 : BitVec 32 := 1#32
  let v863 : BitVec 32 := Scalar.muli v8 c1_i32_908
  let v864 : BitVec 32 := Scalar.addi c0_i32_909 v863
  v864.toNat
def k0_dev41 (d0 : Dev nD) : Nat :=
  let c0_i32_936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_935 : BitVec 32 := 1#32
  let v889 : BitVec 32 := Scalar.muli v8 c1_i32_935
  let v890 : BitVec 32 := Scalar.addi c0_i32_936 v889
  v890.toNat
def k0_dev42 (d0 : Dev nD) : Nat :=
  let c0_i32_945 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_944 : BitVec 32 := 1#32
  let v893 : BitVec 32 := Scalar.muli v5 c1_i32_944
  let v894 : BitVec 32 := Scalar.addi c0_i32_945 v893
  v894.toNat
def k0_dev43 (d0 : Dev nD) : Nat :=
  let c0_i32_988 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_987 : BitVec 32 := 1#32
  let v935 : BitVec 32 := Scalar.muli v5 c1_i32_987
  let v936 : BitVec 32 := Scalar.addi c0_i32_988 v935
  v936.toNat
def k0_dev44 (d0 : Dev nD) : Nat :=
  let c0_i32_997 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_996 : BitVec 32 := 1#32
  let v939 : BitVec 32 := Scalar.muli v8 c1_i32_996
  let v940 : BitVec 32 := Scalar.addi c0_i32_997 v939
  v940.toNat
def k0_dev45 (d0 : Dev nD) : Nat :=
  let c0_i32_1024 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_1023 : BitVec 32 := 1#32
  let v965 : BitVec 32 := Scalar.muli v8 c1_i32_1023
  let v966 : BitVec 32 := Scalar.addi c0_i32_1024 v965
  v966.toNat
def k0_dev46 (d0 : Dev nD) : Nat :=
  let c0_i32_1033 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_1032 : BitVec 32 := 1#32
  let v969 : BitVec 32 := Scalar.muli v5 c1_i32_1032
  let v970 : BitVec 32 := Scalar.addi c0_i32_1033 v969
  v970.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x3072 : Shape := ⟨2, ![1536, 3072]⟩
abbrev S3072x1536 : Shape := ⟨2, ![3072, 1536]⟩
abbrev S1536x1536 : Shape := ⟨2, ![1536, 1536]⟩

abbrev nBuf : Space → Nat
  | .hbm => 3
  | .vmem => 0
  | .smem => 0
  | _ => 0

abbrev bufTy : (tb : Table) → Fin (tcTables nBuf tb) → BufTy
  | .hbm, ⟨0, _⟩ => ⟨S1536x3072, .f32⟩
  | .hbm, ⟨1, _⟩ => ⟨S3072x1536, .f32⟩
  | .hbm, ⟨2, _⟩ => ⟨S1536x1536, .f32⟩
  | _, _ => ⟨S1536x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/- The kernel's body again, written over a column stream `σ` and a hop `h` in the place of the printed
   statements' numbers, and the equality of the two. -/
module

public import proofs.«01_k».proof.Proof.Gen.KernelIdeal
public import proofs.«01_k».proof.Proof.Gen.KernelIdeal.Skeleton

@[expose] public section

set_option synthInstance.maxSize 4096

noncomputable section

namespace Cert.KernelIdeal.Own

open Idealize.ShloMosaic Idealize.SL.Sem Cert.KernelIdeal.Gen

variable {F : FTy → Type} [FloatOps F]

/-- The programs of the kernel's core. -/
abbrev Pg (F : FTy → Type) (α : Type) := Prog (TpuEff nD τ sig (Elt F) Λ₀ .tc) α

/-- The two-slot buffer of a stream. -/
abbrev bufM : Fin 4 → Memref sig .tc .vmem S2x384x384 .f32
  | 0 => Memref.whole cc0_scratch0
  | 1 => Memref.whole cc0_scratch1
  | 2 => Memref.whole cc0_scratch2
  | 3 => Memref.whole cc0_scratch3

/-- A stream's six send semaphores. -/
abbrev sendA : Fin 4 → DmaSems sig S6
  | 0 => cc0_scratch4
  | 1 => cc0_scratch6
  | 2 => cc0_scratch8
  | 3 => cc0_scratch10

/-- A stream's six receive semaphores. -/
abbrev recvA : Fin 4 → DmaSems sig S6
  | 0 => cc0_scratch5
  | 1 => cc0_scratch7
  | 2 => cc0_scratch9
  | 3 => cc0_scratch11

/-- A stream's five semaphores saying that a slot downstream is free. -/
abbrev freeA : Fin 4 → Sems sig S5
  | 0 => cc0_scratch12
  | 1 => cc0_scratch13
  | 2 => cc0_scratch14
  | 3 => cc0_scratch15

theorem inSlot (k : Fin 2) : ∀ i, (![k.val, 0, 0] : Fin 3 → Nat) i + S1x384x384.size i ≤ S2x384x384.size i := by
  revert k; decide

theorem inSix (h : Fin 6) : ∀ i, (![h.val] : Fin 1 → Nat) i + S1.size i ≤ S6.size i := by
  revert h; decide

theorem inFive (h : Fin 5) : ∀ i, (![h.val] : Fin 1 → Nat) i + S1.size i ≤ S5.size i := by
  revert h; decide

/-- The rectangle of slot `k` in a buffer. -/
abbrev slotR (k : Fin 2) : Rect S2x384x384 :=
  Rect.unit (s := S2x384x384) ![k.val, 0, 0] S1x384x384.size (inSlot k)

/-- Slot `k` of a stream's buffer, a block. -/
abbrev slotM (σ : Fin 4) (k : Fin 2) : Memref sig .tc .vmem S384x384 .f32 :=
  ((bufM σ).slice (slotR k) (fun _ => rfl)).squeeze S384x384 squeezes_S1x384x384_S384x384

abbrev sendS (σ : Fin 4) (h : Fin 6) : DmaSem sig :=
  (((sendA σ).slice (Rect.unit (s := S6) ![h.val] S1.size (inSix h))).squeeze S_ squeezes_S1_S_).sem

abbrev recvS (σ : Fin 4) (h : Fin 6) : DmaSem sig :=
  (((recvA σ).slice (Rect.unit (s := S6) ![h.val] S1.size (inSix h))).squeeze S_ squeezes_S1_S_).sem

abbrev freeS (σ : Fin 4) (h : Fin 5) : Sem sig :=
  (((freeA σ).slice (Rect.unit (s := S5) ![h.val] S1.size (inFive h))).squeeze S_ squeezes_S1_S_).sem

/-- The barrier's semaphore. -/
abbrev barS : Sem sig := (SemArray.scalar (sig.barrier 0 rfl) : Sems sig S_).sem

/-- The slot hop `h` sends from. -/
def srcK (h : Fin 6) : Fin 2 := ⟨h.val % 2, Nat.mod_lt _ (by decide)⟩

/-- The slot hop `h` lands in. -/
def dstK (h : Fin 6) : Fin 2 := ⟨(h.val + 1) % 2, Nat.mod_lt _ (by decide)⟩

/-- The left neighbour. -/
def leftD (c : Dev nD) : Dev nD := ⟨k0_dev1 c, k0_dev1_lt c⟩

/-- The right neighbour. -/
def rightD (c : Dev nD) : Dev nD := ⟨k0_dev2 c, k0_dev2_lt c⟩

/-- The neighbour a stream sends to. -/
def downD : Fin 4 → Dev nD → Dev nD
  | 0, c => rightD c
  | 1, c => rightD c
  | 2, c => leftD c
  | 3, c => leftD c

/-- The neighbour a stream receives from. -/
def upD : Fin 4 → Dev nD → Dev nD
  | 0, c => leftD c
  | 1, c => leftD c
  | 2, c => rightD c
  | 3, c => rightD c

/-- The word by which a stream's `t`-th block (counted from one) stands before the device's own. -/
def stepW : Fin 4 → Fin 4 → BitVec 32
  | 0, t => BitVec.ofNat 32 (1 + t.val)
  | 1, t => BitVec.ofNat 32 (1 + t.val)
  | 2, t => BitVec.ofNat 32 (4294967292 + (3 - t.val))
  | 3, t => BitVec.ofNat 32 (4294967292 + (3 - t.val))

/-- Where that block of the result starts. -/
def stepOff : Fin 4 → Fin 4 → Dev nD → Fin 2 → Nat
  | 0, t, c => k0_off4 c (stepW 0 t)
  | 1, t, c => k0_off6 c (stepW 1 t)
  | 2, t, c => k0_off5 c (stepW 2 t)
  | 3, t, c => k0_off7 c (stepW 3 t)

theorem stepOff_inb (σ t : Fin 4) (c : Dev nD) : ∀ i, stepOff σ t c i + S384x384.size i ≤ S1536x1536.size i := by
  revert σ t c; decide +kernel

/-- Where a stream's quarter of the device's own rows starts. -/
def ownOff : Fin 4 → Dev nD → Fin 2 → Nat
  | 0, c => k0_off12 c
  | 1, c => k0_off13 c
  | 2, c => k0_off14 c
  | 3, c => k0_off15 c

theorem ownOff_inb (σ : Fin 4) (c : Dev nD) : ∀ i, ownOff σ c i + S384x384.size i ≤ S1536x1536.size i := by
  revert σ c; decide +kernel

/-- Where the rows of the operand start that a stream multiplies first. -/
def firstOff (σ : Fin 4) (c : Dev nD) : Fin 2 → Nat := k0_off1 c (stepW σ 0)

theorem firstOff_inb (σ : Fin 4) (c : Dev nD) : ∀ i, firstOff σ c i + S384x768.size i ≤ S1536x768.size i := by
  revert σ c; decide +kernel

theorem inCols (σ : Fin 4) : ∀ i, (![0, 384 * σ.val] : Fin 2 → Nat) i + S768x384.size i ≤ S768x1536.size i := by
  revert σ; decide

section Ops

variable (aM : Memref sig .tc .vmem S1536x768 .f32) (bM : Memref sig .tc .vmem S768x1536 .f32)
  (oM : Memref sig .tc .vmem S1536x1536 .f32)

/-- A product of rows and columns as a slot's contents. -/
def dotPay (x : Vec F S384x768 .f32) (y : Vec F S768x384 .f32) : FVec F S1x384x384 .f32 :=
  shapeCast S1x384x384 (matmul dot_S384x768_S768x384_S384x384_1_0_0_1_n_n none
    (shapeCast S384x768 x shapeCasts_S384x768_S384x768 : FVec F S384x768 .f32)
    (shapeCast S768x384 y shapeCasts_S768x384_S768x384 : FVec F S768x384 .f32)
    (constant S384x384 .f32 0x00000000#32 : FVec F S384x384 .f32)) shapeCasts_S384x384_S1x384x384

/-- A slot's contents and a block added, as a slot's contents. -/
def addPay (x : Vec F S1x384x384 .f32) (y : Vec F S384x384 .f32) : FVec F S1x384x384 .f32 :=
  shapeCast S1x384x384 (addf (shapeCast S384x384 x shapeCasts_S1x384x384_S384x384 : FVec F S384x384 .f32)
    (shapeCast S384x384 y shapeCasts_S384x384_S384x384 : FVec F S384x384 .f32)) shapeCasts_S384x384_S1x384x384

/-- A slot's contents as a block. -/
def slotPay (x : Vec F S1x384x384 .f32) : FVec F S384x384 .f32 :=
  shapeCast S384x384 x shapeCasts_S1x384x384_S384x384

/-- Multiply a stream's first rows and its columns into slot 0. -/
def firstDot (σ : Fin 4) (c : Dev nD) : Pg F PUnit :=
  .op (.load aM (Rect.unit (s := S1536x768) (firstOff σ c) S384x768.size (firstOff_inb σ c)).toLoadRect (View.loadsAt_vmem h_S384x768)) fun x =>
  .op (.load bM (Rect.unit (s := S768x1536) ![0, 384 * σ.val] S768x384.size (inCols σ)).toLoadRect (View.loadsAt_vmem h_S768x384)) fun y =>
  .op (.load (bufM σ) (slotR 0).toLoadRect (View.loadsAt_vmem h_S1x384x384)) fun _ =>
  .op (.store (bufM σ) (slotR 0) (dotPay x y) Finset.univ (View.stores_vmem_bits_univ h_S1x384x384 rfl) (.inl rfl)) .ret

/-- Start hop `h` of a stream. -/
def start (σ : Fin 4) (h : Fin 6) (c : Dev nD) : Pg F PUnit :=
  .op (.enqueueDma (slotM σ (srcK h)) (.remote (Dev.tc (downD σ c)) (slotM σ (dstK h)) (.dma (sendS σ h))) (.dma (recvS σ h))
    ((View.wordExact_bits rfl).reshape _ _) ((View.wordExact_bits rfl).reshape _ _) ⟨⟨rfl, Or.inl rfl⟩, trivial⟩) .ret

/-- Wait until hop `h` has read its source and until the neighbour's hop `h` has landed. -/
def await (σ : Fin 4) (h : Fin 6) : Pg F PUnit :=
  .op (.waitDma2 (sendS σ h) (slotM σ (dstK h)) (slotM σ (srcK h)) ((View.wordExact_bits rfl).reshape _ _) ((View.wordExact_bits rfl).reshape _ _)) fun _ =>
  .op (.waitDma2 (recvS σ h) (slotM σ (srcK h)) (slotM σ (dstK h)) ((View.wordExact_bits rfl).reshape _ _) ((View.wordExact_bits rfl).reshape _ _)) .ret

/-- Tell the neighbour upstream that hop `h`'s source is free. -/
def release (σ : Fin 4) (h : Fin 5) (c : Dev nD) : Pg F PUnit :=
  .op (.semSignal (upD σ c, .tc) (freeS σ h) (1#32).toInt) .ret

/-- Wait until the slot downstream is free that hop `h + 1` writes. -/
def acquire (σ : Fin 4) (h : Fin 5) : Pg F PUnit :=
  .op (.semWait (freeS σ h) (1#32).toInt) .ret

/-- Add the device's own product to what hop `h` brought. -/
def accumulate (σ : Fin 4) (h : Fin 6) (t : Fin 4) (c : Dev nD) : Pg F PUnit :=
  .op (.load (bufM σ) (slotR (dstK h)).toLoadRect (View.loadsAt_vmem h_S1x384x384)) fun x =>
  .op (.load oM (Rect.unit (s := S1536x1536) (stepOff σ t c) S384x384.size (stepOff_inb σ t c)).toLoadRect (View.loadsAt_vmem h_S384x384)) fun y =>
  .op (.load (bufM σ) (slotR (dstK h)).toLoadRect (View.loadsAt_vmem h_S1x384x384)) fun _ =>
  .op (.store (bufM σ) (slotR (dstK h)) (addPay x y) Finset.univ (View.stores_vmem_bits_univ h_S1x384x384 rfl) (.inl rfl)) .ret

/-- Copy a slot to a block of the result. -/
def copyTo (σ : Fin 4) (k : Fin 2) (off : Fin 2 → Nat) (hoff : ∀ i, off i + S384x384.size i ≤ S1536x1536.size i) : Pg F PUnit :=
  .op (.load (bufM σ) (slotR k).toLoadRect (View.loadsAt_vmem h_S1x384x384)) fun x =>
  .op (.load oM (Rect.unit (s := S1536x1536) off S384x384.size hoff).toLoadRect (View.loadsAt_vmem h_S384x384)) fun _ =>
  .op (.store oM (Rect.unit (s := S1536x1536) off S384x384.size hoff) (slotPay x) Finset.univ (View.stores_vmem_bits_univ h_S384x384 rfl) (.inl rfl)) .ret

/-- A product of rows and all columns. -/
def wholePay (x : Vec F S384x768 .f32) (y : Vec F S768x1536 .f32) : FVec F S384x1536 .f32 :=
  matmul dot_S384x768_S768x1536_S384x1536_1_0_0_1_n_n none
    (shapeCast S384x768 x shapeCasts_S384x768_S384x768 : FVec F S384x768 .f32)
    (shapeCast S768x1536 y shapeCasts_S768x1536_S768x1536 : FVec F S768x1536 .f32)
    (constant S384x1536 .f32 0x00000000#32 : FVec F S384x1536 .f32)

/-- A product of rows and half of the columns. -/
def halfPay (x : Vec F S384x768 .f32) (y : Vec F S768x768 .f32) : FVec F S384x768 .f32 :=
  matmul dot_S384x768_S768x768_S384x768_1_0_0_1_n_n none
    (shapeCast S384x768 x shapeCasts_S384x768_S384x768 : FVec F S384x768 .f32)
    (shapeCast S768x768 y shapeCasts_S768x768_S768x768 : FVec F S768x768 .f32)
    (constant S384x768 .f32 0x00000000#32 : FVec F S384x768 .f32)

/-- Multiply some rows by all columns into the result. -/
def rowsWhole (offA offO : Fin 2 → Nat) (hA : ∀ i, offA i + S384x768.size i ≤ S1536x768.size i)
    (hO : ∀ i, offO i + S384x1536.size i ≤ S1536x1536.size i) : Pg F PUnit :=
  .op (.load aM (Rect.unit (s := S1536x768) offA S384x768.size hA).toLoadRect (View.loadsAt_vmem h_S384x768)) fun x =>
  .op (.load bM (Rect.unit (s := S768x1536) ![0, 0] S768x1536.size inb_S768x1536_S768x1536_0_0).toLoadRect (View.loadsAt_vmem h_S768x1536)) fun y =>
  .op (.load oM (Rect.unit (s := S1536x1536) offO S384x1536.size hO).toLoadRect (View.loadsAt_vmem h_S384x1536)) fun _ =>
  .op (.store oM (Rect.unit (s := S1536x1536) offO S384x1536.size hO) (wholePay x y) Finset.univ (View.stores_vmem_bits_univ h_S384x1536 rfl) (.inl rfl)) .ret

/-- Multiply some rows by half of the columns into the result. -/
def rowsHalf (offA offB offO : Fin 2 → Nat) (hA : ∀ i, offA i + S384x768.size i ≤ S1536x768.size i)
    (hB : ∀ i, offB i + S768x768.size i ≤ S768x1536.size i)
    (hO : ∀ i, offO i + S384x768.size i ≤ S1536x1536.size i) : Pg F PUnit :=
  .op (.load aM (Rect.unit (s := S1536x768) offA S384x768.size hA).toLoadRect (View.loadsAt_vmem h_S384x768)) fun x =>
  .op (.load bM (Rect.unit (s := S768x1536) offB S768x768.size hB).toLoadRect (View.loadsAt_vmem h_S768x768)) fun y =>
  .op (.load oM (Rect.unit (s := S1536x1536) offO S384x768.size hO).toLoadRect (View.loadsAt_vmem h_S384x768)) fun _ =>
  .op (.store oM (Rect.unit (s := S1536x1536) offO S384x768.size hO) (halfPay x y) Finset.univ (View.stores_vmem_bits_univ h_S384x768 rfl) (.inl rfl)) .ret

/-- A round of the reduction for two streams: hop `h` ends, the own product is added, hop `h + 1` starts. -/
def reduce (a b : Fin 4) (h : Fin 3) (c : Dev nD) : Pg F PUnit := do
  await a (h.castLE (by decide))
  release a (h.castLE (by decide)) c
  await b (h.castLE (by decide))
  release b (h.castLE (by decide)) c
  accumulate oM a (h.castLE (by decide)) (h.succ) c
  accumulate oM b (h.castLE (by decide)) (h.succ) c
  acquire a (h.castLE (by decide))
  start a (h.succ.castLE (by decide)) c
  acquire b (h.castLE (by decide))
  start b (h.succ.castLE (by decide)) c

/-- A round of the gathering for two streams: hop `h` ends, hop `h + 1` starts, what came is copied. -/
def gather (a b : Fin 4) (h : Fin 5) (h' : Fin 6) (t : Fin 4) (c : Dev nD) : Pg F PUnit := do
  await a h.castSucc
  release a h c
  acquire a h
  start a h' c
  await b h.castSucc
  release b h c
  acquire b h
  start b h' c
  copyTo oM a (dstK h.castSucc) (stepOff a t c) (stepOff_inb a t c)
  copyTo oM b (dstK h.castSucc) (stepOff b t c) (stepOff_inb b t c)

/-- The last round of the gathering for two streams. -/
def gatherLast (a b : Fin 4) (c : Dev nD) : Pg F PUnit := do
  await a 5
  await b 5
  copyTo oM a (dstK 5) (stepOff a 2 c) (stepOff_inb a 2 c)
  copyTo oM b (dstK 5) (stepOff b 2 c) (stepOff_inb b 2 c)

/-- The body, its device known. -/
def bodyP (c : Dev nD) : Pg F PUnit := do
  (.op (.semSignal (leftD c, .tc) barS (1#32).toInt) .ret : Pg F PUnit)
  (.op (.semSignal (rightD c, .tc) barS (1#32).toInt) .ret : Pg F PUnit)
  firstDot aM bM 0 c
  (.op (.semWait barS (2#32).toInt) .ret : Pg F PUnit)
  start 0 0 c
  firstDot aM bM 2 c
  start 2 0 c
  firstDot aM bM 1 c
  start 1 0 c
  firstDot aM bM 3 c
  start 3 0 c
  rowsWhole aM bM oM (k0_off2 c 2#32) (k0_off3 c) (k0_off2_inb c 1) (k0_off3_inb c)
  reduce oM 0 2 0 c
  reduce oM 1 3 0 c
  rowsHalf aM bM oM (k0_off2 c 1#32) ![0, 0] (k0_off8 c) (k0_off2_inb c 0) inb_S768x1536_S768x768_0_0 (k0_off8_inb c)
  rowsHalf aM bM oM (k0_off1 c 1#32) ![0, 768] (k0_off9 c) (k0_off1_inb c 0) inb_S768x1536_S768x768_0_768 (k0_off9_inb c)
  reduce oM 0 2 1 c
  reduce oM 1 3 1 c
  rowsWhole aM bM oM (k0_off10 c) (k0_off11 c) (k0_off10_inb c) (k0_off11_inb c)
  reduce oM 0 2 2 c
  reduce oM 1 3 2 c
  copyTo oM 0 1 (ownOff 0 c) (ownOff_inb 0 c)
  copyTo oM 1 1 (ownOff 1 c) (ownOff_inb 1 c)
  copyTo oM 2 1 (ownOff 2 c) (ownOff_inb 2 c)
  copyTo oM 3 1 (ownOff 3 c) (ownOff_inb 3 c)
  gather oM 0 2 3 4 0 c
  gather oM 1 3 3 4 0 c
  gather oM 0 2 4 5 1 c
  gather oM 1 3 4 5 1 c
  gatherLast oM 0 2 c
  gatherLast oM 1 3 c

end Ops

set_option maxRecDepth 65536 in
set_option maxHeartbeats 0 in
/-- The printed body reads its device and then is `bodyP`. -/
theorem body_eq (aM : Memref sig .tc .vmem S1536x768 .f32) (ha : aM.IsWhole) (bM : Memref sig .tc .vmem S768x1536 .f32) (hb : bM.IsWhole)
    (oM : Memref sig .tc .vmem S1536x1536 .f32) (ho : oM.IsWhole) (h0 h1 h2 h3) :
    cc0_body (F := F) aM ha bM hb oM ho (Memref.whole cc0_scratch0) h0 (Memref.whole cc0_scratch1) h1 (Memref.whole cc0_scratch2) h2
      (Memref.whole cc0_scratch3) h3 cc0_scratch4 cc0_scratch5 cc0_scratch6 cc0_scratch7 cc0_scratch8 cc0_scratch9 cc0_scratch10
      cc0_scratch11 cc0_scratch12 cc0_scratch13 cc0_scratch14 cc0_scratch15
      = .op .deviceId fun c => bodyP aM bM oM c := by
  rw [cc0_body_eq_skeleton]
  rfl

end Cert.KernelIdeal.Own

end

end
-- ==== Proof.Proto.lean ====
/- The protocol of the kernel's semaphores: what each of them hands over, what each device owes and in
   what order, and why no wait closes a circle. -/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring -/

/-- Sending down and receiving from up are inverse to each other. -/
theorem down_up (σ : Fin 4) (c : Dev nD) : downD σ (upD σ c) = c := by revert σ c; decide +kernel
theorem up_down (σ : Fin 4) (c : Dev nD) : upD σ (downD σ c) = c := by revert σ c; decide +kernel
theorem left_right (c : Dev nD) : leftD (rightD c) = c := by revert c; decide +kernel
theorem right_left (c : Dev nD) : rightD (leftD c) = c := by revert c; decide +kernel

/-! ## The semaphores -/

/-- A device's semaphores: those of the scoped arrays (send, receive, free), and the barrier. -/
abbrev Kx : Type := ((Fin 4 × Fin 6) ⊕ (Fin 4 × Fin 6)) ⊕ (Fin 4 × Fin 5)
abbrev Kd : Type := Kx ⊕ Unit

abbrev kSend (σ : Fin 4) (h : Fin 6) : Kd := .inl (.inl (.inl (σ, h)))
abbrev kRecv (σ : Fin 4) (h : Fin 6) : Kd := .inl (.inl (.inr (σ, h)))
abbrev kFree (σ : Fin 4) (h : Fin 5) : Kd := .inl (.inr (σ, h))
abbrev kBar : Kd := .inr ()

abbrev osem : Kx → SemLoc sig
  | .inl (.inl (σ, h)) => .dma (sendS σ h)
  | .inl (.inr (σ, h)) => .dma (recvS σ h)
  | .inr (σ, h) => .reg (freeS σ h)

abbrev sl : Kd → SemLoc sig
  | .inl k => osem k
  | .inr _ => .reg barS

theorem sl_injective : Function.Injective sl := by
  have h : ∀ k k' : Kd, sl k = sl k' → k = k' := by decide +kernel
  exact fun k k' e => h k k' e

/-- The cell of a semaphore on a device. -/
abbrev cell (c : Dev nD) (k : Kd) : GSem nD τ sig := ((c : Thread nD τ), sl k)

/-- Which of the device's semaphores a location is, if any. -/
def kind (s : SemLoc sig) : Option Kd := Function.partialInv sl s

theorem kind_sl (k : Kd) : kind (sl k) = some k := Function.partialInv_left sl_injective k

/-- The credit of one hop's copy. -/
abbrev N : ℕ := (slotM 0 0).view.dmaCredit
theorem N_pos : 0 < N := View.dmaCredit_pos _ (by decide)

/-! ## The contents of the slots -/

abbrev Blk (F : FTy → Type) : Type := FVec F S384x384 .f32

/-- The row block of the result, counted from the device's own, that a stream has at its `t`-th step. -/
def kk : Fin 4 → Fin 4 → Fin 4
  | 0, t => 3 - t
  | 1, t => 3 - t
  | 2, t => t + 1
  | 3, t => t + 1

variable (A : Dev nD → FVec F S1536x768 .f32) (B : Dev nD → FVec F S768x1536 .f32)

/-- Rows of an operand. -/
def rowsOf (x : FVec F S1536x768 .f32) (off : Fin 2 → Nat) (h : ∀ i, off i + S384x768.size i ≤ S1536x768.size i) : FVec F S384x768 .f32 :=
  fun i => x ((Rect.unit (s := S1536x768) off S384x768.size h).emb i)
/-- A quarter of the columns of an operand. -/
def quarterOf (y : FVec F S768x1536 .f32) (σ : Fin 4) : FVec F S768x384 .f32 :=
  fun i => y ((Rect.unit (s := S768x1536) ![0, 384 * σ.val] S768x384.size (inCols σ)).emb i)
/-- A half of the columns of an operand. -/
def halfOf (y : FVec F S768x1536 .f32) (off : Fin 2 → Nat) (h : ∀ i, off i + S768x768.size i ≤ S768x1536.size i) : FVec F S768x768 .f32 :=
  fun i => y ((Rect.unit (s := S768x1536) off S768x768.size h).emb i)

theorem inWide (j : Fin 4) : ∀ i, (![0, 384 * j.val] : Fin 2 → Nat) i + S384x384.size i ≤ S384x1536.size i := by
  revert j; decide
theorem inHalf (j : Fin 4) : ∀ i, (![0, 384 * (j.val % 2)] : Fin 2 → Nat) i + S384x384.size i ≤ S384x768.size i := by
  revert j; decide

/-- Column block `j` of a row of four blocks. -/
def wideBlk (w : FVec F S384x1536 .f32) (j : Fin 4) : Blk F :=
  fun i => w ((Rect.unit (s := S384x1536) ![0, 384 * j.val] S384x384.size (inWide j)).emb i)
/-- Column block `j`, out of the row of two blocks it lies in. -/
def halfBlk (w : FVec F S384x768 .f32) (j : Fin 4) : Blk F :=
  fun i => w ((Rect.unit (s := S384x768) ![0, 384 * (j.val % 2)] S384x384.size (inHalf j)).emb i)

/-- The block a stream multiplies first. -/
def firstBlk (c : Dev nD) (σ : Fin 4) : Blk F :=
  slotPay (dotPay (rowsOf (A c) (firstOff σ c) (firstOff_inb σ c)) (quarterOf (B c) σ))

/-- The device's own product at row block `k`, counted from its own, and column block `j`, as the kernel computes it. -/
def P (c : Dev nD) (k j : Fin 4) : Blk F :=
  if k = 0 then wideBlk (wholePay (rowsOf (A c) (k0_off10 c) (k0_off10_inb c)) (B c)) j
  else if k = 2 then wideBlk (wholePay (rowsOf (A c) (k0_off2 c 2#32) (k0_off2_inb c 1)) (B c)) j
  else if k = kk j 0 then firstBlk A B c j
  else if k = 1 then halfBlk (halfPay (rowsOf (A c) (k0_off2 c 1#32) (k0_off2_inb c 0)) (halfOf (B c) ![0, 0] inb_S768x1536_S768x768_0_0)) j
  else halfBlk (halfPay (rowsOf (A c) (k0_off1 c 1#32) (k0_off1_inb c 0)) (halfOf (B c) ![0, 768] inb_S768x1536_S768x768_0_768)) j

/-- What hop `h` of a stream carries from device `c`. -/
def X (σ : Fin 4) : ℕ → Dev nD → Blk F
  | 0, c => P A B c (kk σ 0) σ
  | n + 1, c => if n < 3 then addf (X σ n (upD σ c)) (P A B c (kk σ (Fin.ofNat 4 (n + 1))) σ) else X σ n (upD σ c)

/-! ## The schedule -/

/-- Some contents of a slot. -/
def someSlot (c : Dev nD) (σ : Fin 4) (k : Fin 2) : sProp 𝕄 := iprop(∃ Y : Blk F, owns (c : Thread nD τ) (slotM σ k) fullShare Y)

instance someSlot_storable (c : Dev nD) (σ : Fin 4) (k : Fin 2) : BI.Storable (upEmb : UEmb _ 𝕄) (someSlot (F := F) c σ k) := by
  unfold someSlot; infer_instance

/-- What a duty on a semaphore of device `c` hands over. -/
def pay (c : Dev nD) : Option Kd → Bool → sProp 𝕄
  | some (.inl (.inl (.inl (σ, h)))), _ => owns (c : Thread nD τ) (slotM σ (srcK h)) fullShare.left (X A B σ h.val c)
  | some (.inl (.inl (.inr (σ, h)))), _ => owns (c : Thread nD τ) (slotM σ (dstK h)) fullShare (X A B σ h.val (upD σ c))
  | some (.inl (.inr (σ, h))), _ => someSlot (downD σ c) σ (srcK h.castSucc)
  | some (.inr _), true => iprop(someSlot (rightD c) 0 1 ∗ someSlot (rightD c) 1 1)
  | some (.inr _), false => iprop(someSlot (leftD c) 2 1 ∗ someSlot (leftD c) 3 1)
  | none, _ => iprop(emp)

instance pay_storable (c : Dev nD) (k : Option Kd) (d : Bool) : BI.Storable (upEmb : UEmb _ 𝕄) (pay A B c k d) := by
  rcases k with _ | ((⟨⟨σ, h⟩⟩ | ⟨⟨σ, h⟩⟩) | ⟨σ, h⟩) | _ <;> cases d <;> unfold pay <;> infer_instance

def dutiesK : Option Kd → Finset Bool
  | some (.inl _) => {false}
  | some (.inr _) => Finset.univ
  | none => ∅

def amountK : Option Kd → ℕ
  | some (.inl (.inl _)) => N
  | _ => 1

theorem amountK_pos (k : Option Kd) : 0 < amountK k := by
  rcases k with _ | (_ | _) | _
  · exact Nat.one_pos
  · exact N_pos
  · exact Nat.one_pos
  · exact Nat.one_pos

def sched : Rounds.Schedule (GSem nD τ sig) Bool 𝕄 where
  duties g r := if r = 0 ∧ g.1.2 = .tc then dutiesK (kind g.2) else ∅
  unitless _ := False
  amount g _ _ := amountK (kind g.2)
  payload g _ d := pay A B g.1.1 (kind g.2) d
  amount_pos g _ _ _ := amountK_pos _

instance sched_storable (g : GSem nD τ sig) (r : ℕ) (d : Bool) : BI.Storable (upEmb : UEmb _ 𝕄) ((sched A B).payload g r d) :=
  pay_storable A B g.1.1 (kind g.2) d

section Sched
variable (c : Dev nD)

theorem duties_at (k : Kd) : (sched A B).duties (cell c k) 0 = dutiesK (some k) := by
  dsimp only [sched]; rw [if_pos ⟨rfl, rfl⟩, kind_sl]
theorem duties_later (g : GSem nD τ sig) : ∀ r, 1 ≤ r → (sched A B).duties g r = ∅ :=
  fun r hr => by dsimp only [sched]; exact if_neg fun h => by omega
theorem amount_at (k : Kd) (d : Bool) : (sched A B).amount (cell c k) 0 d = amountK (some k) := by
  dsimp only [sched]; rw [kind_sl]
theorem payload_at (k : Kd) (d : Bool) : (sched A B).payload (cell c k) 0 d = pay A B c (some k) d := by
  dsimp only [sched]; rw [kind_sl]

theorem expect_own (k : Kx) : (sched A B).expect (cell c (.inl k)) 0 = amountK (some (.inl k)) := by
  unfold Schedule.expect Schedule.amountOf
  rw [duties_at]; exact (Finset.sum_singleton _ _).trans (amount_at A B c _ _)
theorem expect_bar : (sched A B).expect (cell c kBar) 0 = 2 := by
  unfold Schedule.expect Schedule.amountOf
  rw [duties_at, Finset.sum_congr rfl fun d _ => amount_at A B c kBar d]; rfl

theorem rest_own (k : Kx) :
    bigSep ((sched A B).duties (cell c (.inl k)) 0 \ ∅) (fun d => (sched A B).payload (cell c (.inl k)) 0 d) = pay A B c (some (.inl k)) false := by
  rw [Finset.sdiff_empty, duties_at]; exact bigSep_singleton.trans (payload_at A B c _ _)
theorem rest_bar :
    bigSep ((sched A B).duties (cell c kBar) 0 \ ∅) (fun d => (sched A B).payload (cell c kBar) 0 d)
      = iprop(pay A B c (some kBar) false ∗ pay A B c (some kBar) true) := by
  rw [Finset.sdiff_empty, duties_at]
  show bigSep Finset.univ _ = _
  rw [bigSep_univ_eq_bigSepL [false, true] (by decide) (by decide), bigSepL_cons_cons, bigSepL_singleton, payload_at, payload_at]
  rfl

end Sched

/-! ## What a device owes, and the levels -/

/-- A device's payments to other devices: the two barrier signals, its hops' landings, the slots it frees. -/
inductive Pay
  | barL
  | barR
  | recv (σ : Fin 4) (h : Fin 6)
  | free (σ : Fin 4) (h : Fin 5)
  deriving DecidableEq

def Pay.kd : Pay → Kd
  | barL => kBar
  | barR => kBar
  | recv σ h => kRecv σ h
  | free σ h => kFree σ h

def Pay.dev (c : Dev nD) : Pay → Dev nD
  | barL => leftD c
  | barR => rightD c
  | recv σ _ => downD σ c
  | free σ _ => upD σ c

/-- The level of a semaphore: a wait may be entered when all that is still owed lies higher. -/
def lvK : Kd → ℕ
  | .inl (.inl (.inl _)) => 0
  | .inl (.inl (.inr (σ, h))) => 4 * (2 * h.val + σ.val % 2) + 2 * (σ.val / 2) + 2
  | .inl (.inr (σ, h)) => 4 * (2 * (h.val + 1) + σ.val % 2) + 2 * (σ.val / 2) + 1
  | .inr _ => 1

def Pay.lv (p : Pay) : ℕ := lvK p.kd

theorem Pay.lv_pos (p : Pay) : 0 < p.lv := by cases p <;> simp [Pay.lv, Pay.kd, lvK]

/-- Debts, the first to be paid outermost. -/
def oweT (c : Dev nD) : List Pay → CellTallies nD τ sig Unit
  | [] => 0
  | p :: l => oweT c l + tallyAt (cell (p.dev c) p.kd) () (amountK (some p.kd))

def owe (c : Dev nD) (l : List Pay) : sProp 𝕄 := iprop(∃ W, owes (c : Thread nD τ) (oweT c l) W)

/-- Everything a device pays, in the order of its program. -/
def plan : List Pay :=
  [.barL, .barR, .recv 0 0, .recv 2 0, .recv 1 0, .recv 3 0,
   .free 0 0, .free 2 0, .recv 0 1, .recv 2 1, .free 1 0, .free 3 0, .recv 1 1, .recv 3 1,
   .free 0 1, .free 2 1, .recv 0 2, .recv 2 2, .free 1 1, .free 3 1, .recv 1 2, .recv 3 2,
   .free 0 2, .free 2 2, .recv 0 3, .recv 2 3, .free 1 2, .free 3 2, .recv 1 3, .recv 3 3,
   .free 0 3, .recv 0 4, .free 2 3, .recv 2 4, .free 1 3, .recv 1 4, .free 3 3, .recv 3 4,
   .free 0 4, .recv 0 5, .free 2 4, .recv 2 5, .free 1 4, .recv 1 5, .free 3 4, .recv 3 5]

def L (g : GSem nD τ sig) : Finset Unit := if g.1.2 = .tc then {()} else ∅
def lv (g : GSem nD τ sig) (_ : Unit) : ℕ := match kind g.2 with
  | some k => lvK k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) : lv (cell c k) () = lvK k := by unfold lv; rw [kind_sl]

theorem oweT_pos {c : Dev nD} {g : GSem nD τ sig} {u : Unit} : ∀ l : List Pay, 0 < oweT c l g u → ∃ p ∈ l, g = cell (p.dev c) p.kd
  | [], h => absurd h (Nat.lt_irrefl 0)
  | p :: l, h => by
    by_cases hg : g = cell (p.dev c) p.kd
    · exact ⟨p, List.mem_cons_self, hg⟩
    · have h' : 0 < oweT c l g u := by
        unfold oweT at h
        rwa [Pi.add_apply, Finsupp.add_apply, tallyAt_apply, if_neg fun h' => hg h'.1] at h
      obtain ⟨q, hq, e⟩ := oweT_pos l h'
      exact ⟨q, List.mem_cons_of_mem _ hq, e⟩

/-- A wait on a semaphore that lies below everything owed may be entered. -/
theorem mayWait_of (c : Dev nD) (sm : SemLoc sig) (l : List Pay) (h : ∀ p ∈ l, lv ((c : Thread nD τ), sm) () < p.lv) :
    (levAts L lv : sProp 𝕄) ⊢ MayWait (c : Thread nD τ) sm () (oweT c l) :=
  MayOwe.of_cut (L := L) (lev := lv) (lv ((c : Thread nD τ), sm) ()) (fun p hp => by rw [Finset.mem_singleton.mp hp, L_tc]; exact Finset.mem_singleton_self _)
    (fun g u hg => by obtain ⟨p, _, rfl⟩ := oweT_pos l hg; exact Finset.mem_singleton_self _)
    (fun p hp => by rw [Finset.mem_singleton.mp hp])
    (fun g u hg => by obtain ⟨p, hp, rfl⟩ := oweT_pos l hg; rw [lv_cell]; exact h p hp)

end Cert.KernelIdeal.Own

end

end
-- ==== Proof.Steps.lean ====
/- The rules of the kernel's communication: what each of its steps needs and leaves. -/
module

public import proofs.«01_k».proof.Proof.Proto

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → FVec F S1536x768 .f32) (B : Dev nD → FVec F S768x1536 .f32)
  (K : Dev nD × Kd → ℕ)

instance decDK : DecidableEq (Dev nD × Kd) := @instDecidableEqProd _ _ (inferInstanceAs (DecidableEq (Fin nD))) (@instDecidableEqSum _ _ inferInstance inferInstance)

/-- Every cell's invariant, and that each has reached its round. -/
def records : sProp 𝕄 :=
  iprop((bigSep Finset.univ fun ck : Dev nD × Kd => cellInv ER (sched A B) (K ck) (cell ck.1 ck.2))
    ∗ bigSep Finset.univ fun ck : Dev nD × Kd => reached ER (cell ck.1 ck.2) 0)

instance records_persistent : BI.Persistent (records A B K) := by unfold records; infer_instance

theorem inv_at (c : Dev nD) (k : Kd) : records A B K ⊢ cellInv ER (sched A B) (K (c, k)) (cell c k) := by
  unfold records; exact sep_elim_left.trans (bigSep_elim (Finset.mem_univ (c, k)))
theorem reached_at (c : Dev nD) (k : Kd) : records A B K ⊢ reached ER (cell c k) 0 := by
  unfold records; exact sep_elim_right.trans (bigSep_elim (Finset.mem_univ (c, k)))

/-- The records and the levels, which every step may look at. -/
def know : sProp 𝕄 := iprop(records A B K ∗ levAts L lv)
instance know_persistent : BI.Persistent (know A B K) := by unfold know; infer_instance

theorem know_inv (c : Dev nD) (k : Kd) : know A B K ⊢ cellInv ER (sched A B) (K (c, k)) (cell c k) :=
  sep_elim_left.trans (inv_at A B K c k)
theorem know_reached (c : Dev nD) (k : Kd) : know A B K ⊢ reached ER (cell c k) 0 :=
  sep_elim_left.trans (reached_at A B K c k)
theorem know_lev : know A B K ⊢ levAts L lv := sep_elim_right

/-- Running a program on device `c`. -/
abbrev run (c : Dev nD) (p : Pg F PUnit) (Q : PUnit → sProp 𝕄) : sProp 𝕄 :=
  wp frame (wpE (defs₀ (F := F)) 𝒱₀ (c : Thread nD τ) none) Set.univ p Q

theorem run_ret (c : Dev nD) (Q : PUnit → sProp 𝕄) : Q ⟨⟩ ⊢ run c (.ret ⟨⟩) Q := by
  unfold run; rw [wp_ret]; exact fupd_intro

/-! ## Signals and waits -/

/-- A wait on one of the device's own semaphores hands over what its duty pays and closes the cell. -/
theorem wait_own (c : Dev nD) (k : Kx) (l : List Pay) (hl : ∀ p ∈ l, lvK (.inl k) < p.lv)
    {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (osem k) (amountK (some (.inl k))) Kt) (k' : PUnit → Pg F PUnit) (Q : PUnit → sProp 𝕄) :
    iprop(know A B K ∗ owe c l ∗ atPos ER (cell c (.inl k)) 0 ∅ 0 ∗ cred (tallyAt (cell c (.inl k)) () (amountK (some (.inl k)))))
      ⊢ iprop(((owe c l ∗ semVal (cell c (.inl k)) 0 ∗ pay A B c (some (.inl k)) false) -∗ run c (k' ⟨⟩) Q) -∗ run c (.op w k') Q) := by
  iintro ⟨#HK, Ho, Hat, Hc⟩ Hk
  unfold owe
  icases Ho with ⟨%W, HO⟩
  iapply (Rounds.wp_wait_rest_token 𝒱₀ ER (sched A B) (c : Thread nD τ) none (κ := K (c, .inl k)) hw (Set.mem_univ _) () (O := oweT c l) (W := W)
      (R := 0) (m := 0) (T := ∅) (by rw [Nat.zero_add]; exact (expect_own A B c k).symm)) $$ [Hc HO Hat]
  · isplitr; · iapply (know_inv A B K c (.inl k)); iexact HK
    isplitl [Hc]; · iexact Hc
    isplitl [HO]; · iexact HO
    isplitr
    · iapply (mayWait_of (F := F) c (osem k) l (fun p hp => by rw [show lv ((c : Thread nD τ), osem k) () = lvK (.inl k) from lv_cell c (.inl k)]; exact hl p hp))
      iapply (know_lev A B K); iexact HK
    iexact Hat
  iintro ⟨HO, Hat, -, Hpay⟩
  imod (Rounds.cell_close ER (sched A B) (Set.mem_univ (K (c, .inl k))) (fun h => h) (R := 0 + 1) (duties_later A B (cell c (.inl k)))) $$ [Hat] with Hz
  · isplitr; · iapply (know_inv A B K c (.inl k)); iexact HK
    iexact Hat
  iapply Hk
  isplitl [HO]; · iexists _; iexact HO
  isplitl [Hz]; · iexact Hz
  iapply (Entails.of_eq (rest_own A B c k)); iexact Hpay

/-- A signal of one unit to another device pays the debt at the head of the list. -/
theorem signal_wp (c : Dev nD) (p : Pay) (l : List Pay) (s : Sem sig) (hs : sl p.kd = .reg s) (d : Bool) (hd : d ∈ dutiesK (some p.kd))
    (h1 : amountK (some p.kd) = 1) (dst : Dev nD) (hdst : dst = p.dev c) (Q : PUnit → sProp 𝕄) :
    iprop(know A B K ∗ owe c (p :: l) ∗ dutyTok ER (cell (p.dev c) p.kd) 0 d ∗ pay A B (p.dev c) (some p.kd) d ∗ (owe c l -∗ Q ⟨⟩))
      ⊢ run c (.op (.semSignal ((dst, .tc) : Thread nD τ) s (1#32).toInt) .ret) Q := by
  subst hdst
  iintro ⟨#HK, Ho, Ht, Hp, Hk⟩
  unfold owe
  icases Ho with ⟨%W, HO⟩
  have hc : cell (p.dev c) p.kd = ((p.dev c : Thread nD τ), .reg s) := by unfold cell; rw [hs]
  have hO : oweT c (p :: l) = oweT c l + tallyAt ((p.dev c : Thread nD τ), .reg s) () 1 := by rw [oweT, hc, h1]
  iapply (Rounds.wp_signal 𝒱₀ ER (sched A B) (c : Thread nD τ) none (dst := (p.dev c : Thread nD τ)) (κ := K (p.dev c, p.kd))
      (d := d) (r := 0) (k' := 1) (by rw [← hc, duties_at]; exact hd) (by rw [← hc, amount_at]; exact h1) () (oweT c l) hO) $$ [HO Ht Hp]
  · rw [← hc]
    isplitr; · iapply (know_inv A B K (p.dev c) p.kd); iexact HK
    isplitl [HO]; · iexact HO
    isplitl [Ht]; · iexact Ht
    isplitl [Hp]; · iapply (Entails.of_eq (payload_at A B (p.dev c) p.kd d).symm); iexact Hp
    iapply (know_reached A B K (p.dev c) p.kd); iexact HK
  iintro HO
  iapply run_ret
  iapply Hk; iexists _; iexact HO

/-- Freeing the source of hop `h`: the slot goes to the neighbour upstream. -/
theorem release_wp (σ : Fin 4) (h : Fin 5) (c : Dev nD) (l : List Pay) (Q : PUnit → sProp 𝕄) :
    iprop(know A B K ∗ owe c (.free σ h :: l) ∗ dutyTok ER (cell (upD σ c) (kFree σ h)) 0 false ∗ someSlot c σ (srcK h.castSucc) ∗ (owe c l -∗ Q ⟨⟩))
      ⊢ run c (release σ h c) Q := by
  refine BI.Entails.trans ?_ (signal_wp A B K c (.free σ h) l (freeS σ h) rfl false (Finset.mem_singleton_self _) rfl (upD σ c) rfl Q)
  have e : (someSlot c σ (srcK h.castSucc) : sProp 𝕄) = pay A B (upD σ c) (some (kFree σ h)) false := by
    show _ = someSlot (downD σ (upD σ c)) σ (srcK h.castSucc); rw [down_up]
  rw [e]; exact BI.Entails.refl _

/-- Waiting until the slot downstream is free. -/
theorem acquire_wp (σ : Fin 4) (h : Fin 5) (c : Dev nD) (l : List Pay) (hl : ∀ p ∈ l, lvK (kFree σ h) < p.lv) (Q : PUnit → sProp 𝕄) :
    iprop(know A B K ∗ owe c l ∗ atPos ER (cell c (kFree σ h)) 0 ∅ 0 ∗ cred (tallyAt (cell c (kFree σ h)) () 1)
        ∗ ((owe c l ∗ semVal (cell c (kFree σ h)) 0 ∗ someSlot (downD σ c) σ (srcK h.castSucc)) -∗ Q ⟨⟩))
      ⊢ run c (acquire σ h) Q := by
  iintro ⟨#HK, Ho, Hat, Hc, Hk⟩
  iapply (wait_own A B K c (.inr (σ, h)) l hl (wpE_semWait_eq 𝒱₀ (c : Thread nD τ) none Set.univ)) $$ [Ho Hat Hc]
  · isplitr; · iexact HK
    isplitl [Ho]; · iexact Ho
    isplitl [Hat]; · iexact Hat
    iexact Hc
  iintro H
  iapply run_ret
  iapply Hk; iexact H

/-! ## The copies -/

theorem pay_send (c : Dev nD) (σ : Fin 4) (h : Fin 6) (d : Bool) :
    pay A B c (some (kSend σ h)) d = owns (c : Thread nD τ) (slotM σ (srcK h)) fullShare.left (X A B σ h.val c) := rfl
theorem pay_recv (c : Dev nD) (σ : Fin 4) (h : Fin 6) (d : Bool) :
    pay A B c (some (kRecv σ h)) d = owns (c : Thread nD τ) (slotM σ (dstK h)) fullShare (X A B σ h.val (upD σ c)) := rfl

theorem credit_eq (σ : Fin 4) (k : Fin 2) : (slotM σ k).view.dmaCredit = N := by
  fin_cases σ <;> rfl

/-- A slot's contents at the two halves of the full share, and back. -/
theorem slot_halves (c : Dev nD) (σ : Fin 4) (k : Fin 2) (Y : Blk F) :
    (owns (c : Thread nD τ) (slotM σ k) fullShare Y : sProp 𝕄)
      ⊢ iprop(owns (c : Thread nD τ) (slotM σ k) fullShare.left Y ∗ owns (c : Thread nD τ) (slotM σ k) fullShare.right Y) := by
  unfold owns
  iintro ⟨%f, %hf, H⟩
  ihave H2 := (pointsTo_share (PosShare.mem_left_op_right fullShare)).1 $$ H
  icases H2 with ⟨Hl, Hr⟩
  isplitl [Hl]
  · iexists f; isplitr; · (ipureintro; exact hf)
    iexact Hl
  · iexists f; isplitr; · (ipureintro; exact hf)
    iexact Hr

/-- Two halves of the same elements are the whole, with the contents of either. -/
theorem rejoin (ℓ : Loc nD τ sig) (I : Finset (Idx ℓ)) (f g : Buf (Elt F) ℓ) :
    iprop((ℓ ↦[I]{fullShare.left} f) ∗ (ℓ ↦[I]{fullShare.right} g)) ⊢ (ℓ ↦[I]{fullShare} f : sProp 𝕄) := by
  refine pure_elim _ pointsTo_agree fun h => ?_
  rw [← pointsTo_congr (f := f) (g := g) fun i hi => (h i (Finset.mem_inter.mpr ⟨hi, hi⟩)).1]
  exact (pointsTo_share (PosShare.mem_left_op_right fullShare)).2

theorem slot_join (c : Dev nD) (σ : Fin 4) (k : Fin 2) (Y Y' : Blk F) :
    iprop(owns (c : Thread nD τ) (slotM σ k) fullShare.left Y ∗ owns (c : Thread nD τ) (slotM σ k) fullShare.right Y')
      ⊢ (owns (c : Thread nD τ) (slotM σ k) fullShare Y : sProp 𝕄) := by
  unfold owns
  iintro ⟨⟨%f, %hf, Hl⟩, ⟨%g, %hg, Hr⟩⟩
  ihave H := (rejoin ((slotM σ k).view.loc (c : Thread nD τ)) _ f g) $$ [Hl Hr]
  · isplitl [Hl]
    · iexact Hl
    · iexact Hr
  iexists f; isplitr; · (ipureintro; exact hf)
  iexact H

/-- Starting hop `h`: the source may still be read with the right half of its share. -/
theorem start_wp (σ : Fin 4) (h : Fin 6) (c : Dev nD) (l : List Pay) (Q : PUnit → sProp 𝕄) :
    iprop(know A B K ∗ owe c (.recv σ h :: l) ∗ dutyTok ER (cell c (kSend σ h)) 0 false ∗ dutyTok ER (cell (downD σ c) (kRecv σ h)) 0 false
        ∗ owns (c : Thread nD τ) (slotM σ (srcK h)) fullShare (X A B σ h.val c) ∗ someSlot (downD σ c) σ (dstK h)
        ∗ ((owe c l ∗ cred (tallyAt (cell c (kSend σ h)) () N) ∗ owns (c : Thread nD τ) (slotM σ (srcK h)) fullShare.right (X A B σ h.val c)) -∗ Q ⟨⟩))
      ⊢ run c (start σ h c) Q := by
  iintro ⟨#HK, Ho, Hts, Htr, Hsrc, Hdst, Hk⟩
  ihave H2 := (slot_halves c σ (srcK h) (X A B σ h.val c)) $$ Hsrc
  icases H2 with ⟨Hl, Hr⟩
  unfold owe someSlot owns
  icases Ho with ⟨%W, HO⟩
  icases Hl with ⟨%fs, %hfs, Hl⟩
  icases Hdst with ⟨%Y, %fd, %hfd, Hd⟩
  iapply (Rounds.wp_send_pointsTo 𝒱₀ ER (sched A B) (c : Thread nD τ) none (c' := (downD σ c : Thread nD τ)) (κ₁ := K (c, kSend σ h)) (κ₂ := K (downD σ c, kRecv σ h))
      (src := slotM σ (srcK h)) (dst := slotM σ (dstK h)) (sS := .dma (sendS σ h)) (sem := .dma (recvS σ h)) (q := fullShare.left)
      (fs := fs) (fd := fd) (r₁ := 0) (r₂ := 0) (d₁ := false) (d₂ := false)
      (by rw [duties_at A B c (kSend σ h)]; exact Finset.mem_singleton_self _)
      (by rw [duties_at A B (downD σ c) (kRecv σ h)]; exact Finset.mem_singleton_self _)
      () () N (credit_eq σ (dstK h)) (amount_at A B c (kSend σ h) false) (amount_at A B (downD σ c) (kRecv σ h) false) (oweT c l) rfl (W := W)
      (by
        rw [payload_at A B c (kSend σ h)]
        show _ ⊢ owns (Val := Elt F) (c : Thread nD τ) (slotM σ (srcK h)) fullShare.left (X A B σ h.val c)
        rw [← hfs]; exact owns_intro (c : Thread nD τ) (slotM σ (srcK h)) fullShare.left fs)
      (by
        rw [payload_at A B (downD σ c) (kRecv σ h)]
        show _ ⊢ owns (Val := Elt F) (downD σ c : Thread nD τ) (slotM σ (dstK h)) fullShare (X A B σ h.val (upD σ (downD σ c)))
        rw [up_down, ← hfs]
        refine (owns_intro (downD σ c : Thread nD τ) (slotM σ (dstK h)) fullShare _).trans (Entails.of_eq ?_)
        rw [View.read_write_univ])) $$ [HO Hts Htr Hl Hd]
  · isplitr; · iapply (know_inv A B K c (kSend σ h)); iexact HK
    isplitr; · iapply (know_inv A B K (downD σ c) (kRecv σ h)); iexact HK
    isplitl [Hl]; · iexact Hl
    isplitl [Hd]; · iexact Hd
    isplitl [HO]; · iexact HO
    isplitl [Hts]; · iexact Hts
    isplitr; · iapply (know_reached A B K c (kSend σ h)); iexact HK
    isplitl [Htr]; · iexact Htr
    iapply (know_reached A B K (downD σ c) (kRecv σ h)); iexact HK
  iintro ⟨Hc, HO⟩
  iapply run_ret
  iapply Hk
  isplitl [HO]; · iexists _; iexact HO
  isplitl [Hc]; · iexact Hc
  iexact Hr

/-- Waiting for hop `h`: the source is whole again, and the neighbour's hop has landed. -/
theorem await_wp (σ : Fin 4) (h : Fin 6) (c : Dev nD) (l : List Pay) (hl : ∀ p ∈ l, lvK (kRecv σ h) < p.lv) (Q : PUnit → sProp 𝕄) :
    iprop(know A B K ∗ owe c l ∗ atPos ER (cell c (kSend σ h)) 0 ∅ 0 ∗ cred (tallyAt (cell c (kSend σ h)) () N)
        ∗ atPos ER (cell c (kRecv σ h)) 0 ∅ 0 ∗ cred (tallyAt (cell c (kRecv σ h)) () N)
        ∗ owns (c : Thread nD τ) (slotM σ (srcK h)) fullShare.right (X A B σ h.val c)
        ∗ ((owe c l ∗ semVal (cell c (kSend σ h)) 0 ∗ semVal (cell c (kRecv σ h)) 0
            ∗ owns (c : Thread nD τ) (slotM σ (srcK h)) fullShare (X A B σ h.val c)
            ∗ owns (c : Thread nD τ) (slotM σ (dstK h)) fullShare (X A B σ h.val (upD σ c))) -∗ Q ⟨⟩))
      ⊢ run c (await σ h) Q := by
  iintro ⟨#HK, Ho, Hat1, Hc1, Hat2, Hc2, Hr, Hk⟩
  iapply (wait_own A B K c (.inl (.inl (σ, h))) l (fun p _ => p.lv_pos)
    (by have hN : amountK (some (kSend σ h)) = (slotM σ (srcK h)).view.dmaCredit := (credit_eq σ (srcK h)).symm
        rw [hN]; exact wpE_waitDma2_eq 𝒱₀ (c : Thread nD τ) none Set.univ)) $$ [Ho Hat1 Hc1]
  · isplitr; · iexact HK
    isplitl [Ho]; · iexact Ho
    isplitl [Hat1]; · iexact Hat1
    iexact Hc1
  iintro ⟨Ho, Hz1, Hl⟩
  iapply (wait_own A B K c (.inl (.inr (σ, h))) l hl
    (by have hN : amountK (some (kRecv σ h)) = (slotM σ (dstK h)).view.dmaCredit := (credit_eq σ (dstK h)).symm
        rw [hN]; exact wpE_waitDma2_eq 𝒱₀ (c : Thread nD τ) none Set.univ)) $$ [Ho Hat2 Hc2]
  · isplitr; · iexact HK
    isplitl [Ho]; · iexact Ho
    isplitl [Hat2]; · iexact Hat2
    iexact Hc2
  iintro ⟨Ho, Hz2, Hn⟩
  iapply run_ret
  iapply Hk
  isplitl [Ho]; · iexact Ho
  isplitl [Hz1]; · iexact Hz1
  isplitl [Hz2]; · iexact Hz2
  isplitl [Hl Hr]
  · iapply (slot_join c σ (srcK h) (X A B σ h.val c) (X A B σ h.val c))
    isplitl [Hl]
    · iapply (Entails.of_eq (pay_send A B c σ h false)); iexact Hl
    · iexact Hr
  · iapply (Entails.of_eq (pay_recv A B c σ h false)); iexact Hn

end Cert.KernelIdeal.Own

end

end
-- ==== Proof.Data.lean ====
/- The rules of the kernel's own work: its products, its sums, its copies within a device, over the
   result's buffer cut into sixteen blocks. -/
module

public import proofs.«01_k».proof.Proof.Steps
public import Idealize.ShloMosaic.Lib.Pipeline.Value

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## A buffer written at a rectangle -/

/-- An element of a whole buffer after a store through a rectangle of unit strides. -/
theorem write_unit_apply (b : Ref sig .tc) (off size : Fin b.ty.shape.rank → Nat) (hb : ∀ a, off a + size a ≤ b.ty.shape.size a)
    (f : b.ty.Contents (Elt F)) (w : (Rect.unit (s := b.ty.shape) off size hb).shape.Idx → Elt F b.ty.elt) (i : b.ty.shape.Idx) :
    ((Memref.whole b).access (Rect.unit (s := b.ty.shape) off size hb) : View sig .tc _ _ _).write (Elt F) f w Finset.univ i
      = if h : ∀ a, off a ≤ (i a).val ∧ (i a).val < off a + size a then
          w fun a => ⟨(i a).val - off a, by have := h a; show _ < size a; omega⟩
        else f i := by
  have hr (g : b.ty.Contents (Elt F)) : (Memref.whole b).view.read (Elt F) g = g := View.read_whole b g
  split
  next h =>
    have hi : i = (Rect.unit (s := b.ty.shape) off size hb).emb fun a => ⟨(i a).val - off a, by have := h a; show _ < size a; omega⟩ := by
      funext a; apply Fin.ext
      show (i a).val = off a + 1 * ((i a).val - off a)
      have := h a; omega
    have := View.read_slice_write_emb (Val := Elt F) (v := (Memref.whole b).view) (Rect.unit (s := b.ty.shape) off size hb) f w
      (M := Finset.univ) (x := fun a => ⟨(i a).val - off a, by have := h a; show _ < size a; omega⟩) (Finset.mem_univ _)
    rw [hr, ← hi] at this
    exact this
  next h =>
    have hn : i ∉ Finset.univ.map (Rect.unit (s := b.ty.shape) off size hb).emb := by
      intro hm
      obtain ⟨x, _, rfl⟩ := Finset.mem_map.mp hm
      refine h fun a => ?_
      have hx : (x a).val < size a := (x a).isLt
      show off a ≤ off a + 1 * (x a).val ∧ off a + 1 * (x a).val < off a + size a
      omega
    have := View.read_slice_write_of_not_mem (Val := Elt F) (v := (Memref.whole b).view) (Rect.unit (s := b.ty.shape) off size hb) f w
      Finset.univ hn
    rw [hr, hr] at this
    exact this

/-! ## The result's buffer in blocks -/

/-- The row block of the result an index lies in, counted from the device's own. -/
def rowOf (c : Dev nD) (n : Nat) : Fin 4 := ⟨(n / 384 + 4 - c.val) % 4, Nat.mod_lt _ (by decide)⟩
/-- The column block. -/
def colOf (n : Nat) : Fin 4 := ⟨n / 384 % 4, Nat.mod_lt _ (by decide)⟩
/-- The place in the block. -/
def inBlk (i : S1536x1536.Idx) : S384x384.Idx := fun a => match a with
  | ⟨0, _⟩ => ⟨(i 0).val % 384, Nat.mod_lt _ (by decide)⟩
  | ⟨1, _⟩ => ⟨(i 1).val % 384, Nat.mod_lt _ (by decide)⟩

/-- The result's buffer whose blocks, row blocks counted from the device's own, are `O`. -/
def outC (c : Dev nD) (O : Fin 4 → Fin 4 → Blk F) : FVec F S1536x1536 .f32 :=
  fun i => O (rowOf c (i 0).val) (colOf (i 1).val) (inBlk i)

/-- The element of the buffer at a place of a block. -/
def atBlk (c : Dev nD) (k j : Fin 4) (x : S384x384.Idx) : S1536x1536.Idx := fun a => match a with
  | ⟨0, _⟩ => ⟨384 * ((c.val + k.val) % 4) + (x 0).val, by have : (x 0).val < 384 := (x 0).isLt; show _ < 1536; omega⟩
  | ⟨1, _⟩ => ⟨384 * j.val + (x 1).val, by have : (x 1).val < 384 := (x 1).isLt; show _ < 1536; omega⟩

theorem outC_at (c : Dev nD) (O : Fin 4 → Fin 4 → Blk F) (k j : Fin 4) (x : S384x384.Idx) (i : S1536x1536.Idx)
    (h0 : (i 0).val = 384 * ((c.val + k.val) % 4) + (x 0).val) (h1 : (i 1).val = 384 * j.val + (x 1).val) : outC c O i = O k j x := by
  have hx0 : (x 0).val < 384 := (x 0).isLt
  have hx1 : (x 1).val < 384 := (x 1).isLt
  have hc : c.val < 4 := c.isLt
  have e1 : rowOf c (i 0).val = k := Fin.ext (by show ((i 0).val / 384 + 4 - c.val) % 4 = k.val; omega)
  have e2 : colOf (i 1).val = j := Fin.ext (by show (i 1).val / 384 % 4 = j.val; omega)
  have e3 : inBlk i = x := by
    funext a; match a with
    | ⟨0, _⟩ => exact Fin.ext (by show (i 0).val % 384 = (x 0).val; omega)
    | ⟨1, _⟩ => exact Fin.ext (by show (i 1).val % 384 = (x 1).val; omega)
  unfold outC; rw [e1, e2, e3]

/-- Every contents of the buffer are blocks. -/
theorem outC_surj (c : Dev nD) (f : FVec F S1536x1536 .f32) : f = outC c fun k j x => f (atBlk c k j x) := by
  funext i
  have h0 : (i 0).val < 1536 := (i 0).isLt
  have h1 : (i 1).val < 1536 := (i 1).isLt
  have hc : c.val < 4 := c.isLt
  refine congrArg f (funext fun a => ?_)
  match a with
  | ⟨0, _⟩ =>
    exact Fin.ext (by show (i 0).val = 384 * ((c.val + ((i 0).val / 384 + 4 - c.val) % 4) % 4) + (i 0).val % 384; omega)
  | ⟨1, _⟩ =>
    exact Fin.ext (by show (i 1).val = 384 * ((i 1).val / 384 % 4) + (i 1).val % 384; omega)

/-- Blocks with `w` of them, from column `j0` on in row `k`, replaced. -/
def setB (O : Fin 4 → Fin 4 → Blk F) (k : Fin 4) (j0 w : Nat) (G : Fin 4 → Blk F) : Fin 4 → Fin 4 → Blk F :=
  fun k' j' => if k' = k ∧ j0 ≤ j'.val ∧ j'.val < j0 + w then G j' else O k' j'

/-- A rectangle of `w` blocks stored. -/
theorem outC_write (c : Dev nD) (O : Fin 4 → Fin 4 → Blk F) (k : Fin 4) (j0 w : Nat) (G : Fin 4 → Blk F)
    (off : Fin 2 → Nat) (hoff : off = ![384 * ((c.val + k.val) % 4), 384 * j0])
    (hb : ∀ a, off a + (![384, 384 * w] : Fin 2 → Nat) a ≤ S1536x1536.size a)
    (v : (⟨2, ![384, 384 * w]⟩ : Shape).Idx → F .f32)
    (hv : ∀ (j : Fin 4) (x : S384x384.Idx) (z : (⟨2, ![384, 384 * w]⟩ : Shape).Idx), j0 ≤ j.val → j.val < j0 + w →
      (z 0).val = (x 0).val → (z 1).val = 384 * (j.val - j0) + (x 1).val → v z = G j x) :
    ((Memref.whole cc0_stg2_0).access (Rect.unit (s := S1536x1536) off ![384, 384 * w] hb) : View sig .tc _ _ _).write (Elt F) (outC c O) v Finset.univ
      = outC c (setB O k j0 w G) := by
  subst hoff
  funext i
  rw [write_unit_apply cc0_stg2_0]
  have h0 : (i 0).val < 1536 := (i 0).isLt
  have h1 : (i 1).val < 1536 := (i 1).isLt
  have hc : c.val < 4 := c.isLt
  have hk : k.val < 4 := k.isLt
  have b0 : 384 * ((c.val + k.val) % 4) + 384 ≤ 1536 := hb 0
  have b1 : 384 * j0 + 384 * w ≤ 1536 := hb 1
  split
  next h =>
    have a0 : 384 * ((c.val + k.val) % 4) ≤ (i 0).val ∧ (i 0).val < 384 * ((c.val + k.val) % 4) + 384 := h 0
    have a1 : 384 * j0 ≤ (i 1).val ∧ (i 1).val < 384 * j0 + 384 * w := h 1
    have e1 : rowOf c (i 0).val = k := Fin.ext (by show ((i 0).val / 384 + 4 - c.val) % 4 = k.val; omega)
    have e2 : (colOf (i 1).val).val = (i 1).val / 384 := by show (i 1).val / 384 % 4 = _; omega
    show _ = setB O k j0 w G (rowOf c (i 0).val) (colOf (i 1).val) (inBlk i)
    unfold setB
    rw [if_pos ⟨e1, by omega, by omega⟩]
    refine hv _ _ _ (by omega) (by omega) ?_ ?_
    · show (i 0).val - 384 * ((c.val + k.val) % 4) = (i 0).val % 384; omega
    · show (i 1).val - 384 * j0 = 384 * ((colOf (i 1).val).val - j0) + (i 1).val % 384; rw [e2]; omega
  next h =>
    show O _ _ _ = setB O k j0 w G (rowOf c (i 0).val) (colOf (i 1).val) (inBlk i)
    unfold setB
    rw [if_neg]
    rintro ⟨e1, e2, e3⟩
    have e1' : ((i 0).val / 384 + 4 - c.val) % 4 = k.val := congrArg Fin.val e1
    have e2' : j0 ≤ (i 1).val / 384 % 4 := e2
    have e3' : (i 1).val / 384 % 4 < j0 + w := e3
    refine h fun a => ?_
    match a with
    | ⟨0, _⟩ => show 384 * ((c.val + k.val) % 4) ≤ (i 0).val ∧ (i 0).val < 384 * ((c.val + k.val) % 4) + 384; omega
    | ⟨1, _⟩ => show 384 * j0 ≤ (i 1).val ∧ (i 1).val < 384 * j0 + 384 * w; omega

/-- A block loaded. -/
theorem outC_read (c : Dev nD) (O : Fin 4 → Fin 4 → Blk F) (k j : Fin 4) (off : Fin 2 → Nat)
    (hoff : off = ![384 * ((c.val + k.val) % 4), 384 * j.val]) (hb : ∀ a, off a + S384x384.size a ≤ S1536x1536.size a) :
    (Memref.whole cc0_stg2_0 : Memref sig .tc _ _ _).view.readAt (Elt F) (Rect.unit (s := S1536x1536) off S384x384.size hb).toLoadRect (outC c O) = O k j := by
  subst hoff
  funext x
  refine outC_at c O k j x _ ?_ ?_
  · show 384 * ((c.val + k.val) % 4) + 1 * (x 0).val = _; omega
  · show 384 * j.val + 1 * (x 1).val = _; omega

/-! ## The closed forms of the offsets -/

theorem stepOff_eq (σ t : Fin 4) (c : Dev nD) : stepOff σ t c = ![384 * ((c.val + (kk σ t).val) % 4), 384 * σ.val] := by
  revert σ t c; decide +kernel
theorem ownOff_eq (σ : Fin 4) (c : Dev nD) : ownOff σ c = ![384 * ((c.val + (0 : Fin 4).val) % 4), 384 * σ.val] := by
  revert σ c; decide +kernel
theorem off3_eq (c : Dev nD) : k0_off3 c = ![384 * ((c.val + (2 : Fin 4).val) % 4), 384 * 0] := by revert c; decide +kernel
theorem off8_eq (c : Dev nD) : k0_off8 c = ![384 * ((c.val + (1 : Fin 4).val) % 4), 384 * 0] := by revert c; decide +kernel
theorem off9_eq (c : Dev nD) : k0_off9 c = ![384 * ((c.val + (3 : Fin 4).val) % 4), 384 * 2] := by revert c; decide +kernel
theorem off11_eq (c : Dev nD) : k0_off11 c = ![384 * ((c.val + (0 : Fin 4).val) % 4), 384 * 0] := by revert c; decide +kernel

/-! ## The device's buffers -/

abbrev aM : Memref sig .tc .vmem S1536x768 .f32 := Memref.whole cc0_stg0_0
abbrev bM : Memref sig .tc .vmem S768x1536 .f32 := Memref.whole cc0_stg1_0
abbrev oM : Memref sig .tc .vmem S1536x1536 .f32 := Memref.whole cc0_stg2_0

def aPts (c : Dev nD) (x : FVec F S1536x768 .f32) : sProp 𝕄 := ((c : Thread nD τ).loc cc0_stg0_0) ↦{fullShare} x
def bPts (c : Dev nD) (y : FVec F S768x1536 .f32) : sProp 𝕄 := ((c : Thread nD τ).loc cc0_stg1_0) ↦{fullShare} y
def oPts (c : Dev nD) (O : Fin 4 → Fin 4 → Blk F) : sProp 𝕄 := ((c : Thread nD τ).loc cc0_stg2_0) ↦{fullShare} (outC c O)

/-! ## Loads and stores of a slot -/

/-- A block as a slot's contents. -/
def unslot (Y : Blk F) : FVec F S1x384x384 .f32 := shapeCast S1x384x384 Y shapeCasts_S384x384_S1x384x384

theorem slotPay_unslot (Y : Blk F) : slotPay (unslot Y) = Y := shapeCast_shapeCast _ _ _
theorem unslot_slotPay (w : FVec F S1x384x384 .f32) : unslot (slotPay w) = w := shapeCast_shapeCast _ _ _

theorem slot_load (c : Dev nD) (σ : Fin 4) (k : Fin 2) (q : PosShare TreeShare) (Y : Blk F) {hl : (bufM σ).view.LoadsAt (slotR k).toLoadRect}
    (k' : (S1x384x384.Idx → Elt F .f32) → Pg F PUnit) (Q : PUnit → sProp 𝕄) :
    owns (c : Thread nD τ) (slotM σ k) q Y
      ⊢ iprop((owns (c : Thread nD τ) (slotM σ k) q Y -∗ run c (k' (unslot Y)) Q) -∗ run c (.op (.load (bufM σ) (slotR k).toLoadRect hl) k') Q) := by
  unfold owns
  iintro ⟨%f, %hf, H⟩ Hk
  have hset : ((bufM σ).access (slotR k)).set = (slotM σ k).view.set := (View.set_reshape _ _).symm
  have hread : ((bufM σ).access (slotR k)).read (Elt F) f = unslot Y := by
    rw [← hf]; exact (unslot_slotPay (((bufM σ).access (slotR k)).read (Elt F) f)).symm
  iapply (wp_load_rect 𝒱₀ (c : Thread nD τ) none Set.univ (m := bufM σ) (r := slotR k) (S := (slotM σ k).view.set) (q := q) (f := f) (by rw [hset])) $$ H
  iintro H
  rw [hread]
  iapply Hk
  iexists f; isplitr; · (ipureintro; exact hf)
  iexact H

theorem slot_store (c : Dev nD) (σ : Fin 4) (k : Fin 2) (Y : Blk F) (w : FVec F S1x384x384 .f32) {hx : ((bufM σ).access (slotR k)).Stores Finset.univ}
    {hm : (Finset.univ : Finset (slotR k).shape.Idx) = Finset.univ ∨ ∀ a, (slotR k).stride a = 1} (k' : PUnit → Pg F PUnit) (Q : PUnit → sProp 𝕄) :
    owns (c : Thread nD τ) (slotM σ k) fullShare Y
      ⊢ iprop((owns (c : Thread nD τ) (slotM σ k) fullShare (slotPay w) -∗ run c (k' ⟨⟩) Q)
        -∗ run c (.op (.store (bufM σ) (slotR k) w Finset.univ hx hm) k') Q) := by
  unfold owns
  iintro ⟨%f, %hf, H⟩ Hk
  have hset : ((bufM σ).access (slotR k)).set = (slotM σ k).view.set := (View.set_reshape _ _).symm
  iapply (wp_store 𝒱₀ (c : Thread nD τ) none Set.univ (m := bufM σ) (r := slotR k) (S := (slotM σ k).view.set) (f := f) (by rw [← hset]; exact View.setOn_subset_set _ _)) $$ H
  iintro H
  iapply Hk
  iexists (((bufM σ).access (slotR k)).write (Elt F) f w Finset.univ)
  isplitr
  · ipureintro
    exact congrArg slotPay (View.read_write_univ (Val := Elt F) (v := (bufM σ).access (slotR k)) f w)
  iexact H

/-! ## The steps -/

/-- Adding the device's own product to what came. -/
theorem accumulate_wp (σ : Fin 4) (h : Fin 6) (t : Fin 4) (c : Dev nD) (Y : Blk F) (O : Fin 4 → Fin 4 → Blk F) (Q : PUnit → sProp 𝕄) :
    iprop(owns (c : Thread nD τ) (slotM σ (dstK h)) fullShare Y ∗ oPts c O
        ∗ ((owns (c : Thread nD τ) (slotM σ (dstK h)) fullShare (addf Y (O (kk σ t) σ)) ∗ oPts c O) -∗ Q ⟨⟩))
      ⊢ run c (accumulate oM σ h t c) Q := by
  unfold oPts accumulate
  iintro ⟨Hs, Ho, Hk⟩
  iapply (slot_load c σ (dstK h) fullShare Y) $$ Hs; iintro Hs
  iapply (wp_load 𝒱₀ (c : Thread nD τ) none Set.univ (m := oM) (Finset.subset_univ _)) $$ Ho; iintro Ho
  rw [outC_read c O (kk σ t) σ _ (stepOff_eq σ t c)]
  iapply (slot_load c σ (dstK h) fullShare Y) $$ Hs; iintro Hs
  iapply (slot_store c σ (dstK h) Y) $$ Hs; iintro Hs
  have e : slotPay (addPay (unslot Y) (O (kk σ t) σ)) = addf Y (O (kk σ t) σ) := by
    unfold addPay
    rw [show (shapeCast S384x384 (unslot Y) shapeCasts_S1x384x384_S384x384 : FVec F S384x384 .f32) = Y from slotPay_unslot Y,
      show (shapeCast S384x384 (O (kk σ t) σ) shapeCasts_S384x384_S384x384 : FVec F S384x384 .f32) = O (kk σ t) σ from shapeCast_self _ _]
    exact slotPay_unslot _
  rw [e]
  iapply run_ret
  iapply Hk
  isplitl [Hs] <;> iassumption

/-- Copying a slot to a block of the result. -/
theorem copyTo_wp (σ : Fin 4) (k : Fin 2) (c : Dev nD) (q : PosShare TreeShare) (Y : Blk F) (O : Fin 4 → Fin 4 → Blk F) (r : Fin 4)
    (off : Fin 2 → Nat) (hb : ∀ i, off i + S384x384.size i ≤ S1536x1536.size i) (hoff : off = ![384 * ((c.val + r.val) % 4), 384 * σ.val])
    (Q : PUnit → sProp 𝕄) :
    iprop(owns (c : Thread nD τ) (slotM σ k) q Y ∗ oPts c O
        ∗ ((owns (c : Thread nD τ) (slotM σ k) q Y ∗ oPts c (setB O r σ.val 1 fun _ => Y)) -∗ Q ⟨⟩))
      ⊢ run c (copyTo oM σ k off hb) Q := by
  unfold oPts copyTo
  iintro ⟨Hs, Ho, Hk⟩
  iapply (slot_load c σ k q Y) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := Rect.unit (s := S1536x1536) off S384x384.size hb) (Mk := Finset.univ) (Finset.subset_univ _)) $$ Ho; iintro Ho
  have e := outC_write c O r σ.val 1 (fun _ => Y) off hoff hb (slotPay (unslot Y)) (by
    intro j x z h1 h2 h3 h4
    rw [slotPay_unslot]
    refine congrArg Y (funext fun a => ?_)
    match a with
    | ⟨0, _⟩ => exact Fin.ext h3
    | ⟨1, _⟩ => exact Fin.ext (h4.trans (show 384 * (j.val - σ.val) + (x 1).val = (x 1).val by omega)))
  iapply run_ret
  iapply Hk
  isplitl [Hs]; · iexact Hs
  iapply (Entails.of_eq (congrArg (fun g : FVec F S1536x1536 .f32 => (((c : Thread nD τ).loc cc0_stg2_0) ↦{fullShare} g : sProp 𝕄)) e)); iexact Ho

/-- Some rows times all columns, into a row of blocks. -/
theorem rowsWhole_wp (c : Dev nD) (x : FVec F S1536x768 .f32) (y : FVec F S768x1536 .f32) (O : Fin 4 → Fin 4 → Blk F) (k : Fin 4)
    (offA offO : Fin 2 → Nat) (hA : ∀ i, offA i + S384x768.size i ≤ S1536x768.size i) (hO : ∀ i, offO i + S384x1536.size i ≤ S1536x1536.size i)
    (hoff : offO = ![384 * ((c.val + k.val) % 4), 384 * 0]) (Q : PUnit → sProp 𝕄) :
    iprop(aPts c x ∗ bPts c y ∗ oPts c O
        ∗ ((aPts c x ∗ bPts c y ∗ oPts c (setB O k 0 4 (wideBlk (wholePay (rowsOf x offA hA) y)))) -∗ Q ⟨⟩))
      ⊢ run c (rowsWhole aM bM oM offA offO hA hO) Q := by
  unfold aPts bPts oPts rowsWhole
  iintro ⟨Ha, Hb, Ho, Hk⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  have hy : bM.view.readAt (Elt F) (Rect.unit (s := S768x1536) ![0, 0] S768x1536.size inb_S768x1536_S768x1536_0_0).toLoadRect y = y :=
    Memref.readAt_unit_zero (Elt F) cc0_stg1_0 (funext fun a => by fin_cases a <;> rfl) _ y
  rw [hy]
  iapply (wp_load 𝒱₀ (c : Thread nD τ) none Set.univ (m := oM) (Finset.subset_univ _)) $$ Ho; iintro Ho
  iapply (wp_store 𝒱₀ (c : Thread nD τ) none Set.univ (m := oM) (r := Rect.unit (s := S1536x1536) offO S384x1536.size hO) (Mk := Finset.univ) (Finset.subset_univ _)) $$ Ho; iintro Ho
  have e := outC_write c O k 0 4 (wideBlk (wholePay (rowsOf x offA hA) y)) offO hoff hO (wholePay (rowsOf x offA hA) y) (by
    intro j z w h1 h2 h3 h4
    refine congrArg (wholePay (rowsOf x offA hA) y) (funext fun a => ?_)
    match a with
    | ⟨0, _⟩ => exact Fin.ext (by show (w 0).val = 0 + 1 * (z 0).val; omega)
    | ⟨1, _⟩ => exact Fin.ext (by show (w 1).val = 384 * j.val + 1 * (z 1).val; omega))
  iapply run_ret
  iapply Hk
  isplitl [Ha]; · iexact Ha
  isplitl [Hb]; · iexact Hb
  iapply (Entails.of_eq (congrArg (fun g : FVec F S1536x1536 .f32 => (((c : Thread nD τ).loc cc0_stg2_0) ↦{fullShare} g : sProp 𝕄)) e)); iexact Ho

/-- Some rows times half of the columns, into two blocks. -/
theorem rowsHalf_wp (c : Dev nD) (x : FVec F S1536x768 .f32) (y : FVec F S768x1536 .f32) (O : Fin 4 → Fin 4 → Blk F) (k : Fin 4) (j0 : Nat) (hj : j0 % 2 = 0)
    (offA offB offO : Fin 2 → Nat) (hA : ∀ i, offA i + S384x768.size i ≤ S1536x768.size i) (hB : ∀ i, offB i + S768x768.size i ≤ S768x1536.size i)
    (hO : ∀ i, offO i + S384x768.size i ≤ S1536x1536.size i) (hoff : offO = ![384 * ((c.val + k.val) % 4), 384 * j0]) (Q : PUnit → sProp 𝕄) :
    iprop(aPts c x ∗ bPts c y ∗ oPts c O
        ∗ ((aPts c x ∗ bPts c y ∗ oPts c (setB O k j0 2 (halfBlk (halfPay (rowsOf x offA hA) (halfOf y offB hB))))) -∗ Q ⟨⟩))
      ⊢ run c (rowsHalf aM bM oM offA offB offO hA hB hO) Q := by
  unfold aPts bPts oPts rowsHalf
  iintro ⟨Ha, Hb, Ho, Hk⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := Rect.unit (s := S1536x1536) offO S384x768.size hO) (Mk := Finset.univ) (Finset.subset_univ _)) $$ Ho; iintro Ho
  have e := outC_write c O k j0 2 (halfBlk (halfPay (rowsOf x offA hA) (halfOf y offB hB))) offO hoff hO (halfPay (rowsOf x offA hA) (halfOf y offB hB)) (by
    intro j z w h1 h2 h3 h4
    refine congrArg (halfPay (rowsOf x offA hA) (halfOf y offB hB)) (funext fun a => ?_)
    match a with
    | ⟨0, _⟩ => exact Fin.ext (by show (w 0).val = 0 + 1 * (z 0).val; omega)
    | ⟨1, _⟩ => exact Fin.ext (by show (w 1).val = 384 * (j.val % 2) + 1 * (z 1).val; omega))
  iapply run_ret
  iapply Hk
  isplitl [Ha]; · iexact Ha
  isplitl [Hb]; · iexact Hb
  iapply (Entails.of_eq (congrArg (fun g : FVec F S1536x1536 .f32 => (((c : Thread nD τ).loc cc0_stg2_0) ↦{fullShare} g : sProp 𝕄)) e)); iexact Ho

/-- The product a stream starts with, into slot 0. -/
theorem firstDot_wp (A : Dev nD → FVec F S1536x768 .f32) (B : Dev nD → FVec F S768x1536 .f32) (σ : Fin 4) (c : Dev nD) (Q : PUnit → sProp 𝕄) :
    iprop(aPts c (A c) ∗ bPts c (B c) ∗ someSlot c σ 0
        ∗ ((aPts c (A c) ∗ bPts c (B c) ∗ owns (c : Thread nD τ) (slotM σ 0) fullShare (firstBlk A B c σ)) -∗ Q ⟨⟩))
      ⊢ run c (firstDot aM bM σ c) Q := by
  unfold aPts bPts firstDot someSlot
  iintro ⟨Ha, Hb, ⟨%Y, Hs⟩, Hk⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (slot_load c σ 0 fullShare Y) $$ Hs; iintro Hs
  iapply (slot_store c σ 0 Y) $$ Hs; iintro Hs
  iapply run_ret
  iapply Hk
  isplitl [Ha]; · iexact Ha
  isplitl [Hb]; · iexact Hb
  iexact Hs

end Cert.KernelIdeal.Own

end

end
-- ==== Proof.Rounds.lean ====
/- The rounds of the reduction and of the gathering: one hop of two streams ends and the next starts. -/
module

public import proofs.«01_k».proof.Proof.Data

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device holds of a stream's semaphores -/

/-- What starting and awaiting a hop spends. -/
def hopKit (c : Dev nD) (σ : Fin 4) (h : Fin 6) : sProp 𝕄 :=
  iprop(dutyTok ER (cell c (kSend σ h)) 0 false ∗ dutyTok ER (cell (downD σ c) (kRecv σ h)) 0 false
    ∗ atPos ER (cell c (kSend σ h)) 0 ∅ 0 ∗ atPos ER (cell c (kRecv σ h)) 0 ∅ 0 ∗ cred (tallyAt (cell c (kRecv σ h)) () N))
/-- What freeing a slot and awaiting a free one spends. -/
def freeKit (c : Dev nD) (σ : Fin 4) (h : Fin 5) : sProp 𝕄 :=
  iprop(dutyTok ER (cell (upD σ c) (kFree σ h)) 0 false ∗ atPos ER (cell c (kFree σ h)) 0 ∅ 0 ∗ cred (tallyAt (cell c (kFree σ h)) () 1))
/-- A hop's semaphores closed. -/
def hopDone (c : Dev nD) (σ : Fin 4) (h : Fin 6) : sProp 𝕄 :=
  iprop(semVal (cell c (kSend σ h)) 0 ∗ semVal (cell c (kRecv σ h)) 0)
/-- A free slot's semaphore closed. -/
def freeDone (c : Dev nD) (σ : Fin 4) (h : Fin 5) : sProp 𝕄 := semVal (cell c (kFree σ h)) 0

/-- A conjunction along a list. -/
def all {I : Type} (Φ : I → sProp 𝕄) : List I → sProp 𝕄
  | [] => iprop(emp)
  | i :: l => iprop(Φ i ∗ all Φ l)

/-- A stream's semaphores: hops not started, slots not yet freed, hops done, slots freed. -/
def stock (c : Dev nD) (σ : Fin 4) (ts : List (Fin 6)) (fs : List (Fin 5)) (ds : List (Fin 6)) (es : List (Fin 5)) : sProp 𝕄 :=
  iprop(all (hopKit c σ) ts ∗ all (freeKit c σ) fs ∗ all (hopDone c σ) ds ∗ all (freeDone c σ) es)

variable (A : Dev nD → FVec F S1536x768 .f32) (B : Dev nD → FVec F S768x1536 .f32)
  (K : Dev nD × Kd → ℕ)

/-- A stream's hop in flight: the source readable, both ends awaited. -/
def fly (c : Dev nD) (σ : Fin 4) (h : Fin 6) : sProp 𝕄 :=
  iprop(owns (c : Thread nD τ) (slotM σ (srcK h)) fullShare.right (X A B σ h.val c)
    ∗ atPos ER (cell c (kSend σ h)) 0 ∅ 0 ∗ cred (tallyAt (cell c (kSend σ h)) () N)
    ∗ atPos ER (cell c (kRecv σ h)) 0 ∅ 0 ∗ cred (tallyAt (cell c (kRecv σ h)) () N))

theorem run_bind (c : Dev nD) (p : Pg F PUnit) (k : PUnit → Pg F PUnit) (Q : PUnit → sProp 𝕄) :
    run c p (fun u => run c (k u) Q) ⊢ run c (p >>= k) Q := by
  unfold run; rw [wp_bind]

/-- A hop started out of the stock. -/
theorem start_hop (σ : Fin 4) (h : Fin 6) (c : Dev nD) (l : List Pay) (ts : List (Fin 6)) (fs : List (Fin 5)) (ds : List (Fin 6)) (es : List (Fin 5))
    (Y : Blk F) (hY : Y = X A B σ h.val c) (k k' : Fin 2) (hk : k = srcK h) (hk' : k' = dstK h) (Q : PUnit → sProp 𝕄) :
    iprop(know A B K ∗ owe c (.recv σ h :: l) ∗ stock c σ (h :: ts) fs ds es ∗ owns (c : Thread nD τ) (slotM σ k) fullShare Y ∗ someSlot (downD σ c) σ k'
        ∗ ((owe c l ∗ stock c σ ts fs ds es ∗ fly A B c σ h) -∗ Q ⟨⟩))
      ⊢ run c (start σ h c) Q := by
  subst hY hk hk'
  unfold stock fly
  rw [all]
  iintro ⟨#HK, Ho, ⟨⟨Hkit, Hts⟩, Hrest⟩, Hs, Hd, Hk⟩
  unfold hopKit
  icases Hkit with ⟨H1, H2, H3, H4, H5⟩
  iapply (start_wp A B K σ h c l)
  isplitr; · iexact HK
  isplitl [Ho]; · iexact Ho
  isplitl [H1]; · iexact H1
  isplitl [H2]; · iexact H2
  isplitl [Hs]; · iexact Hs
  isplitl [Hd]; · iexact Hd
  iintro ⟨Ho, Hc, Hr⟩
  iapply Hk
  isplitl [Ho]; · iexact Ho
  isplitl [Hts Hrest]
  · isplitl [Hts]; · iexact Hts
    iexact Hrest
  isplitl [Hr]; · iexact Hr
  isplitl [H3]; · iexact H3
  isplitl [Hc]; · iexact Hc
  isplitl [H4]; · iexact H4
  iexact H5

/-- A hop awaited. -/
theorem await_hop (σ : Fin 4) (h : Fin 6) (c : Dev nD) (l : List Pay) (hl : ∀ p ∈ l, lvK (kRecv σ h) < p.lv)
    (ts : List (Fin 6)) (fs : List (Fin 5)) (ds : List (Fin 6)) (es : List (Fin 5)) (Q : PUnit → sProp 𝕄) :
    iprop(know A B K ∗ owe c l ∗ stock c σ ts fs ds es ∗ fly A B c σ h
        ∗ ((owe c l ∗ stock c σ ts fs (h :: ds) es ∗ owns (c : Thread nD τ) (slotM σ (srcK h)) fullShare (X A B σ h.val c)
            ∗ owns (c : Thread nD τ) (slotM σ (dstK h)) fullShare (X A B σ h.val (upD σ c))) -∗ Q ⟨⟩))
      ⊢ run c (await σ h) Q := by
  unfold stock fly
  rw [show all (hopDone c σ) (h :: ds) = iprop(hopDone (F := F) c σ h ∗ all (hopDone c σ) ds) from rfl]
  iintro ⟨#HK, Ho, ⟨Hts, Hfs, Hds, Hes⟩, ⟨Hr, H1, H2, H3, H4⟩, Hk⟩
  iapply (await_wp A B K σ h c l hl)
  isplitr; · iexact HK
  isplitl [Ho]; · iexact Ho
  isplitl [H1]; · iexact H1
  isplitl [H2]; · iexact H2
  isplitl [H3]; · iexact H3
  isplitl [H4]; · iexact H4
  isplitl [Hr]; · iexact Hr
  iintro ⟨Ho, Hz1, Hz2, Hs, Hd⟩
  iapply Hk
  isplitl [Ho]; · iexact Ho
  isplitl [Hts Hfs Hds Hes Hz1 Hz2]
  · isplitl [Hts]; · iexact Hts
    isplitl [Hfs]; · iexact Hfs
    isplitl [Hds Hz1 Hz2]
    · isplitl [Hz1 Hz2]
      · unfold hopDone
        isplitl [Hz1]; · iexact Hz1
        iexact Hz2
      iexact Hds
    iexact Hes
  isplitl [Hs]; · iexact Hs
  iexact Hd

/-- A freed slot's wait, between its release and its acquisition. -/
def freeWait (c : Dev nD) (σ : Fin 4) (h : Fin 5) : sProp 𝕄 :=
  iprop(atPos ER (cell c (kFree σ h)) 0 ∅ 0 ∗ cred (tallyAt (cell c (kFree σ h)) () 1))

/-- A hop's source freed. -/
theorem release_hop (σ : Fin 4) (h : Fin 5) (c : Dev nD) (l : List Pay)
    (ts : List (Fin 6)) (fs : List (Fin 5)) (ds : List (Fin 6)) (es : List (Fin 5)) (Y : Blk F) (k : Fin 2) (hk : k = srcK h.castSucc) (Q : PUnit → sProp 𝕄) :
    iprop(know A B K ∗ owe c (.free σ h :: l) ∗ stock c σ ts (h :: fs) ds es ∗ owns (c : Thread nD τ) (slotM σ k) fullShare Y
        ∗ ((owe c l ∗ stock c σ ts fs ds es ∗ freeWait c σ h) -∗ Q ⟨⟩))
      ⊢ run c (release σ h c) Q := by
  subst hk
  unfold stock freeWait
  rw [show all (freeKit c σ) (h :: fs) = iprop(freeKit (F := F) c σ h ∗ all (freeKit c σ) fs) from rfl]
  iintro ⟨#HK, Ho, ⟨Hts, ⟨Hkit, Hfs⟩, Hrest⟩, Hs, Hk⟩
  unfold freeKit
  icases Hkit with ⟨H1, H2, H3⟩
  iapply (release_wp A B K σ h c l)
  isplitr; · iexact HK
  isplitl [Ho]; · iexact Ho
  isplitl [H1]; · iexact H1
  isplitl [Hs]; · unfold someSlot; iexists Y; iexact Hs
  iintro Ho
  iapply Hk
  isplitl [Ho]; · iexact Ho
  isplitl [Hts Hfs Hrest]
  · isplitl [Hts]; · iexact Hts
    isplitl [Hfs]; · iexact Hfs
    iexact Hrest
  isplitl [H2]; · iexact H2
  iexact H3

/-- The slot downstream acquired. -/
theorem acquire_hop (σ : Fin 4) (h : Fin 5) (c : Dev nD) (l : List Pay) (hl : ∀ p ∈ l, lvK (kFree σ h) < p.lv)
    (ts : List (Fin 6)) (fs : List (Fin 5)) (ds : List (Fin 6)) (es : List (Fin 5)) (Q : PUnit → sProp 𝕄) :
    iprop(know A B K ∗ owe c l ∗ stock c σ ts fs ds es ∗ freeWait c σ h
        ∗ ((owe c l ∗ stock c σ ts fs ds (h :: es) ∗ someSlot (downD σ c) σ (srcK h.castSucc)) -∗ Q ⟨⟩))
      ⊢ run c (acquire σ h) Q := by
  unfold stock freeWait
  rw [show all (freeDone c σ) (h :: es) = iprop(freeDone (F := F) c σ h ∗ all (freeDone c σ) es) from rfl]
  iintro ⟨#HK, Ho, ⟨Hts, Hfs, Hds, Hes⟩, ⟨H1, H2⟩, Hk⟩
  iapply (acquire_wp A B K σ h c l hl)
  isplitr; · iexact HK
  isplitl [Ho]; · iexact Ho
  isplitl [H1]; · iexact H1
  isplitl [H2]; · iexact H2
  iintro ⟨Ho, Hz, Hs⟩
  iapply Hk
  isplitl [Ho]; · iexact Ho
  isplitl [Hts Hfs Hds Hes Hz]
  · isplitl [Hts]; · iexact Hts
    isplitl [Hfs]; · iexact Hfs
    isplitl [Hds]; · iexact Hds
    isplitl [Hz]
    · unfold freeDone; iexact Hz
    iexact Hes
  iexact Hs

/-! ## The contents from hop to hop -/

theorem X_reduce (σ : Fin 4) (h : Fin 3) (c : Dev nD) :
    X A B σ (h.succ.castLE (by decide) : Fin 6).val c
      = addf (X A B σ (h.castLE (by decide) : Fin 6).val (upD σ c)) (P A B c (kk σ h.succ) σ) := by
  fin_cases h <;> rfl

theorem X_gather (σ : Fin 4) (n : Nat) (hn : 3 ≤ n) (c : Dev nD) : X A B σ (n + 1) c = X A B σ n (upD σ c) := by
  rw [X, if_neg (by omega)]

/-- The slots of neighbouring hops: what one hop lands in, the next is sent from, and back. -/
theorem slots_reduce (h : Fin 3) : srcK (h.castLE (by decide) : Fin 6) = srcK (h.castLE (by decide) : Fin 5).castSucc
    ∧ dstK (h.castLE (by decide) : Fin 6) = srcK (h.succ.castLE (by decide) : Fin 6)
    ∧ srcK (h.castLE (by decide) : Fin 5).castSucc = dstK (h.succ.castLE (by decide) : Fin 6) := by
  revert h; decide

theorem slots_gather (h : Fin 5) : dstK h.castSucc = srcK h.succ ∧ srcK h.castSucc = dstK h.succ := by
  revert h; decide

/-- A round of the reduction. -/
theorem reduce_wp (a b : Fin 4) (h : Fin 3) (c : Dev nD) (l : List Pay)
    (w1 : ∀ p ∈ Pay.free a (h.castLE (by decide)) :: .free b (h.castLE (by decide)) :: .recv a (h.succ.castLE (by decide)) :: .recv b (h.succ.castLE (by decide)) :: l,
      lvK (kRecv a (h.castLE (by decide))) < p.lv)
    (w2 : ∀ p ∈ Pay.free b (h.castLE (by decide)) :: .recv a (h.succ.castLE (by decide)) :: .recv b (h.succ.castLE (by decide)) :: l,
      lvK (kRecv b (h.castLE (by decide))) < p.lv)
    (w3 : ∀ p ∈ Pay.recv a (h.succ.castLE (by decide)) :: .recv b (h.succ.castLE (by decide)) :: l, lvK (kFree a (h.castLE (by decide))) < p.lv)
    (w4 : ∀ p ∈ Pay.recv b (h.succ.castLE (by decide)) :: l, lvK (kFree b (h.castLE (by decide))) < p.lv)
    (ts ts' : List (Fin 6)) (fs fs' : List (Fin 5)) (ds ds' : List (Fin 6)) (es es' : List (Fin 5))
    (O : Fin 4 → Fin 4 → Blk F) (ha : O (kk a h.succ) a = P A B c (kk a h.succ) a) (hb : O (kk b h.succ) b = P A B c (kk b h.succ) b)
    (Q : PUnit → sProp 𝕄) :
    iprop(know A B K
        ∗ owe c (.free a (h.castLE (by decide)) :: .free b (h.castLE (by decide)) :: .recv a (h.succ.castLE (by decide)) :: .recv b (h.succ.castLE (by decide)) :: l)
        ∗ stock c a (h.succ.castLE (by decide) :: ts) (h.castLE (by decide) :: fs) ds es
        ∗ stock c b (h.succ.castLE (by decide) :: ts') (h.castLE (by decide) :: fs') ds' es'
        ∗ fly A B c a (h.castLE (by decide)) ∗ fly A B c b (h.castLE (by decide)) ∗ oPts c O
        ∗ ((owe c l ∗ stock c a ts fs (h.castLE (by decide) :: ds) (h.castLE (by decide) :: es)
            ∗ stock c b ts' fs' (h.castLE (by decide) :: ds') (h.castLE (by decide) :: es')
            ∗ fly A B c a (h.succ.castLE (by decide)) ∗ fly A B c b (h.succ.castLE (by decide)) ∗ oPts c O) -∗ Q ⟨⟩))
      ⊢ run c (reduce oM a b h c) Q := by
  obtain ⟨eS, eN, eD⟩ := slots_reduce h
  have ya : addf (X A B a (h.castLE (by decide) : Fin 6).val (upD a c)) (O (kk a h.succ) a) = X A B a (h.succ.castLE (by decide) : Fin 6).val c := by
    rw [ha]; exact (X_reduce A B a h c).symm
  have yb : addf (X A B b (h.castLE (by decide) : Fin 6).val (upD b c)) (O (kk b h.succ) b) = X A B b (h.succ.castLE (by decide) : Fin 6).val c := by
    rw [hb]; exact (X_reduce A B b h c).symm
  unfold reduce
  iintro ⟨#HK, Ho, Ga, Gb, Fa, Fb, Hout, Hk⟩
  iapply run_bind
  iapply (await_hop A B K a _ c _ w1) $$ [-]
  isplitr; · iexact HK
  isplitl [Ho]; · iexact Ho
  isplitl [Ga]; · iexact Ga
  isplitl [Fa]; · iexact Fa
  iintro ⟨Ho, Ga, Sa, Da⟩
  iapply run_bind
  iapply (release_hop A B K a _ c _ _ _ _ _ _ _ eS) $$ [-]
  isplitr; · iexact HK
  isplitl [Ho]; · iexact Ho
  isplitl [Ga]; · iexact Ga
  isplitl [Sa]; · iexact Sa
  iintro ⟨Ho, Ga, Wa⟩
  iapply run_bind
  iapply (await_hop A B K b _ c _ w2) $$ [-]
  isplitr; · iexact HK
  isplitl [Ho]; · iexact Ho
  isplitl [Gb]; · iexact Gb
  isplitl [Fb]; · iexact Fb
  iintro ⟨Ho, Gb, Sb, Db⟩
  iapply run_bind
  iapply (release_hop A B K b _ c _ _ _ _ _ _ _ eS) $$ [-]
  isplitr; · iexact HK
  isplitl [Ho]; · iexact Ho
  isplitl [Gb]; · iexact Gb
  isplitl [Sb]; · iexact Sb
  iintro ⟨Ho, Gb, Wb⟩
  iapply run_bind
  iapply (accumulate_wp a _ h.succ c _ O) $$ [-]
  isplitl [Da]; · iexact Da
  isplitl [Hout]; · iexact Hout
  iintro ⟨Da, Hout⟩
  iapply run_bind
  iapply (accumulate_wp b _ h.succ c _ O) $$ [-]
  isplitl [Db]; · iexact Db
  isplitl [Hout]; · iexact Hout
  iintro ⟨Db, Hout⟩
  iapply run_bind
  iapply (acquire_hop A B K a _ c _ w3) $$ [-]
  isplitr; · iexact HK
  isplitl [Ho]; · iexact Ho
  isplitl [Ga]; · iexact Ga
  isplitl [Wa]; · iexact Wa
  iintro ⟨Ho, Ga, Na⟩
  iapply run_bind
  iapply (start_hop A B K a _ c _ _ _ _ _ _ ya _ _ eN eD) $$ [-]
  isplitr; · iexact HK
  isplitl [Ho]; · iexact Ho
  isplitl [Ga]; · iexact Ga
  isplitl [Da]; · iexact Da
  isplitl [Na]; · iexact Na
  iintro ⟨Ho, Ga, Fa⟩
  iapply run_bind
  iapply (acquire_hop A B K b _ c _ w4) $$ [-]
  isplitr; · iexact HK
  isplitl [Ho]; · iexact Ho
  isplitl [Gb]; · iexact Gb
  isplitl [Wb]; · iexact Wb
  iintro ⟨Ho, Gb, Nb⟩
  iapply (start_hop A B K b _ c _ _ _ _ _ _ yb _ _ eN eD) $$ [-]
  isplitr; · iexact HK
  isplitl [Ho]; · iexact Ho
  isplitl [Gb]; · iexact Gb
  isplitl [Db]; · iexact Db
  isplitl [Nb]; · iexact Nb
  iintro ⟨Ho, Gb, Fb⟩
  iapply Hk
  isplitl [Ho]; · iexact Ho
  isplitl [Ga]; · iexact Ga
  isplitl [Gb]; · iexact Gb
  isplitl [Fa]; · iexact Fa
  isplitl [Fb]; · iexact Fb
  iexact Hout

/-- A hop of the gathering ends and the next starts: what came can still be read. -/
theorem turn_wp (a : Fin 4) (h : Fin 5) (hh : 3 ≤ h.val) (c : Dev nD) (l : List Pay)
    (w1 : ∀ p ∈ Pay.free a h :: .recv a h.succ :: l, lvK (kRecv a h.castSucc) < p.lv)
    (w2 : ∀ p ∈ Pay.recv a h.succ :: l, lvK (kFree a h) < p.lv)
    (ts : List (Fin 6)) (fs : List (Fin 5)) (ds : List (Fin 6)) (es : List (Fin 5)) (k : PUnit → Pg F PUnit) (Q : PUnit → sProp 𝕄) :
    iprop(know A B K ∗ owe c (.free a h :: .recv a h.succ :: l) ∗ stock c a (h.succ :: ts) (h :: fs) ds es ∗ fly A B c a h.castSucc
        ∗ ((owe c l ∗ stock c a ts fs (h.castSucc :: ds) (h :: es) ∗ fly A B c a h.succ) -∗ run c (k ⟨⟩) Q))
      ⊢ run c (await a h.castSucc >>= fun _ => release a h c >>= fun _ => acquire a h >>= fun _ => start a h.succ c >>= k) Q := by
  obtain ⟨eN, eD⟩ := slots_gather h
  have y : X A B a h.castSucc.val (upD a c) = X A B a h.succ.val c := (X_gather A B a h.val hh c).symm
  iintro ⟨#HK, Ho, Ga, Fa, Hk⟩
  iapply run_bind
  iapply (await_hop A B K a _ c _ w1) $$ [-]
  isplitr; · iexact HK
  isplitl [Ho]; · iexact Ho
  isplitl [Ga]; · iexact Ga
  isplitl [Fa]; · iexact Fa
  iintro ⟨Ho, Ga, Sa, Da⟩
  iapply run_bind
  iapply (release_hop A B K a _ c _ _ _ _ _ _ _ rfl) $$ [-]
  isplitr; · iexact HK
  isplitl [Ho]; · iexact Ho
  isplitl [Ga]; · iexact Ga
  isplitl [Sa]; · iexact Sa
  iintro ⟨Ho, Ga, Wa⟩
  iapply run_bind
  iapply (acquire_hop A B K a _ c _ w2) $$ [-]
  isplitr; · iexact HK
  isplitl [Ho]; · iexact Ho
  isplitl [Ga]; · iexact Ga
  isplitl [Wa]; · iexact Wa
  iintro ⟨Ho, Ga, Na⟩
  iapply run_bind
  iapply (start_hop A B K a _ c _ _ _ _ _ _ y _ _ eN eD) $$ [-]
  isplitr; · iexact HK
  isplitl [Ho]; · iexact Ho
  isplitl [Ga]; · iexact Ga
  isplitl [Da]; · iexact Da
  isplitl [Na]; · iexact Na
  iexact Hk

/-- What came with a hop copied to the result while the next hop reads it. -/
theorem copyFly_wp (a : Fin 4) (h : Fin 6) (k : Fin 2) (hk : k = srcK h) (c : Dev nD) (O : Fin 4 → Fin 4 → Blk F) (r : Fin 4) (off : Fin 2 → Nat)
    (hb : ∀ i, off i + S384x384.size i ≤ S1536x1536.size i) (hoff : off = ![384 * ((c.val + r.val) % 4), 384 * a.val]) (Q : PUnit → sProp 𝕄) :
    iprop(fly A B c a h ∗ oPts c O ∗ ((fly A B c a h ∗ oPts c (setB O r a.val 1 fun _ => X A B a h.val c)) -∗ Q ⟨⟩))
      ⊢ run c (copyTo oM a k off hb) Q := by
  subst hk
  unfold fly
  iintro ⟨⟨Hs, Hrest⟩, Ho, Hk⟩
  iapply (copyTo_wp a (srcK h) c fullShare.right (X A B a h.val c) O r off hb hoff) $$ [-]
  isplitl [Hs]; · iexact Hs
  isplitl [Ho]; · iexact Ho
  iintro ⟨Hs, Ho⟩
  iapply Hk
  isplitl [Hs Hrest]
  · isplitl [Hs]; · iexact Hs
    iexact Hrest
  iexact Ho

/-- A round of the gathering. -/
theorem gather_wp (a b : Fin 4) (h : Fin 5) (hh : 3 ≤ h.val) (t : Fin 4) (c : Dev nD) (l : List Pay)
    (w1 : ∀ p ∈ Pay.free a h :: .recv a h.succ :: .free b h :: .recv b h.succ :: l, lvK (kRecv a h.castSucc) < p.lv)
    (w2 : ∀ p ∈ Pay.recv a h.succ :: .free b h :: .recv b h.succ :: l, lvK (kFree a h) < p.lv)
    (w3 : ∀ p ∈ Pay.free b h :: .recv b h.succ :: l, lvK (kRecv b h.castSucc) < p.lv)
    (w4 : ∀ p ∈ Pay.recv b h.succ :: l, lvK (kFree b h) < p.lv)
    (ts ts' : List (Fin 6)) (fs fs' : List (Fin 5)) (ds ds' : List (Fin 6)) (es es' : List (Fin 5)) (O : Fin 4 → Fin 4 → Blk F) (Q : PUnit → sProp 𝕄) :
    iprop(know A B K ∗ owe c (.free a h :: .recv a h.succ :: .free b h :: .recv b h.succ :: l)
        ∗ stock c a (h.succ :: ts) (h :: fs) ds es ∗ stock c b (h.succ :: ts') (h :: fs') ds' es'
        ∗ fly A B c a h.castSucc ∗ fly A B c b h.castSucc ∗ oPts c O
        ∗ ((owe c l ∗ stock c a ts fs (h.castSucc :: ds) (h :: es) ∗ stock c b ts' fs' (h.castSucc :: ds') (h :: es')
            ∗ fly A B c a h.succ ∗ fly A B c b h.succ
            ∗ oPts c (setB (setB O (kk a t) a.val 1 fun _ => X A B a h.succ.val c) (kk b t) b.val 1 fun _ => X A B b h.succ.val c)) -∗ Q ⟨⟩))
      ⊢ run c (gather oM a b h h.succ t c) Q := by
  have eN := (slots_gather h).1
  unfold gather
  iintro ⟨#HK, Ho, Ga, Gb, Fa, Fb, Hout, Hk⟩
  iapply (turn_wp A B K a h hh c _ w1 w2) $$ [-]
  isplitr; · iexact HK
  isplitl [Ho]; · iexact Ho
  isplitl [Ga]; · iexact Ga
  isplitl [Fa]; · iexact Fa
  iintro ⟨Ho, Ga, Fa⟩
  iapply (turn_wp A B K b h hh c _ w3 w4) $$ [-]
  isplitr; · iexact HK
  isplitl [Ho]; · iexact Ho
  isplitl [Gb]; · iexact Gb
  isplitl [Fb]; · iexact Fb
  iintro ⟨Ho, Gb, Fb⟩
  iapply run_bind
  iapply (copyFly_wp A B a h.succ _ eN c O (kk a t) _ _ (stepOff_eq a t c)) $$ [-]
  isplitl [Fa]; · iexact Fa
  isplitl [Hout]; · iexact Hout
  iintro ⟨Fa, Hout⟩
  iapply (copyFly_wp A B b h.succ _ eN c _ (kk b t) _ _ (stepOff_eq b t c)) $$ [-]
  isplitl [Fb]; · iexact Fb
  isplitl [Hout]; · iexact Hout
  iintro ⟨Fb, Hout⟩
  iapply Hk
  isplitl [Ho]; · iexact Ho
  isplitl [Ga]; · iexact Ga
  isplitl [Gb]; · iexact Gb
  isplitl [Fa]; · iexact Fa
  isplitl [Fb]; · iexact Fb
  iexact Hout

/-- The last round of the gathering. -/
theorem gatherLast_wp (a b : Fin 4) (c : Dev nD)
    (ts ts' : List (Fin 6)) (fs fs' : List (Fin 5)) (ds ds' : List (Fin 6)) (es es' : List (Fin 5)) (O : Fin 4 → Fin 4 → Blk F) (Q : PUnit → sProp 𝕄) :
    iprop(know A B K ∗ owe c [] ∗ stock c a ts fs ds es ∗ stock c b ts' fs' ds' es' ∗ fly A B c a 5 ∗ fly A B c b 5 ∗ oPts c O
        ∗ ((owe c [] ∗ stock c a ts fs (5 :: ds) es ∗ stock c b ts' fs' (5 :: ds') es'
            ∗ (someSlot c a 0 ∗ someSlot c a 1) ∗ (someSlot c b 0 ∗ someSlot c b 1)
            ∗ oPts c (setB (setB O (kk a 2) a.val 1 fun _ => X A B a 6 c) (kk b 2) b.val 1 fun _ => X A B b 6 c)) -∗ Q ⟨⟩))
      ⊢ run c (gatherLast oM a b c) Q := by
  have ya : X A B a (5 : Fin 6).val (upD a c) = X A B a 6 c := (X_gather A B a 5 (by decide) c).symm
  have yb : X A B b (5 : Fin 6).val (upD b c) = X A B b 6 c := (X_gather A B b 5 (by decide) c).symm
  unfold gatherLast
  iintro ⟨#HK, Ho, Ga, Gb, Fa, Fb, Hout, Hk⟩
  iapply run_bind
  iapply (await_hop A B K a 5 c _ (fun p hp => absurd hp List.not_mem_nil)) $$ [-]
  isplitr; · iexact HK
  isplitl [Ho]; · iexact Ho
  isplitl [Ga]; · iexact Ga
  isplitl [Fa]; · iexact Fa
  rw [ya]
  iintro ⟨Ho, Ga, Sa, Da⟩
  iapply run_bind
  iapply (await_hop A B K b 5 c _ (fun p hp => absurd hp List.not_mem_nil)) $$ [-]
  isplitr; · iexact HK
  isplitl [Ho]; · iexact Ho
  isplitl [Gb]; · iexact Gb
  isplitl [Fb]; · iexact Fb
  rw [yb]
  iintro ⟨Ho, Gb, Sb, Db⟩
  iapply run_bind
  iapply (copyTo_wp a (dstK 5) c fullShare (X A B a 6 c) O (kk a 2) _ _ (stepOff_eq a 2 c)) $$ [-]
  isplitl [Da]; · iexact Da
  isplitl [Hout]; · iexact Hout
  iintro ⟨Da, Hout⟩
  iapply (copyTo_wp b (dstK 5) c fullShare (X A B b 6 c) _ (kk b 2) _ _ (stepOff_eq b 2 c)) $$ [-]
  isplitl [Db]; · iexact Db
  isplitl [Hout]; · iexact Hout
  iintro ⟨Db, Hout⟩
  iapply Hk
  unfold someSlot
  isplitl [Ho]; · iexact Ho
  isplitl [Ga]; · iexact Ga
  isplitl [Gb]; · iexact Gb
  isplitl [Sa Da]
  · isplitl [Da]
    · iexists _; iexact Da
    iexists _; iexact Sa
  isplitl [Sb Db]
  · isplitl [Db]
    · iexists _; iexact Db
    iexists _; iexact Sb
  iexact Hout

end Cert.KernelIdeal.Own

end

end
-- ==== Proof.Body.lean ====
/- The whole body on one device: what it needs, and what it leaves. -/
module

public import proofs.«01_k».proof.Proof.Rounds

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → FVec F S1536x768 .f32) (B : Dev nD → FVec F S768x1536 .f32)
  (K : Dev nD × Kd → ℕ)

/-- The barrier's wait: both neighbours have handed over their second slots. -/
theorem wait_bar (c : Dev nD) (l : List Pay) (hl : ∀ p ∈ l, lvK kBar < p.lv) (Q : PUnit → sProp 𝕄) :
    iprop(know A B K ∗ owe c l ∗ atPos ER (cell c kBar) 0 ∅ 0 ∗ cred (tallyAt (cell c kBar) () 2)
        ∗ ((owe c l ∗ semVal (cell c kBar) 0 ∗ (someSlot (downD 0 c) 0 1 ∗ someSlot (downD 1 c) 1 1)
            ∗ (someSlot (downD 2 c) 2 1 ∗ someSlot (downD 3 c) 3 1)) -∗ Q ⟨⟩))
      ⊢ run c (.op (.semWait barS (2#32).toInt) .ret) Q := by
  iintro ⟨#HK, Ho, Hat, Hc, Hk⟩
  unfold owe
  icases Ho with ⟨%W, HO⟩
  iapply (Rounds.wp_wait_rest_token 𝒱₀ ER (sched A B) (c : Thread nD τ) none (κ := K (c, kBar))
      (wpE_semWait_eq 𝒱₀ (c : Thread nD τ) none Set.univ) (Set.mem_univ _) () (O := oweT c l) (W := W)
      (R := 0) (m := 0) (T := ∅) (by rw [Nat.zero_add]; exact (expect_bar A B c).symm)) $$ [Hc HO Hat]
  · isplitr; · iapply (know_inv A B K c kBar); iexact HK
    isplitl [Hc]; · iexact Hc
    isplitl [HO]; · iexact HO
    isplitr
    · iapply (mayWait_of (F := F) c (.reg barS) l (fun p hp => by rw [show lv ((c : Thread nD τ), .reg barS) () = lvK kBar from lv_cell c kBar]; exact hl p hp))
      iapply (know_lev A B K); iexact HK
    iexact Hat
  iintro ⟨HO, Hat, -, Hpay⟩
  imod (Rounds.cell_close ER (sched A B) (Set.mem_univ (K (c, kBar))) (fun h => h) (R := 0 + 1) (duties_later A B (cell c kBar))) $$ [Hat] with Hz
  · isplitr; · iapply (know_inv A B K c kBar); iexact HK
    iexact Hat
  ihave Hp := (Entails.of_eq (rest_bar A B c)) $$ Hpay
  icases Hp with ⟨Hf, Ht⟩
  iapply run_ret
  iapply Hk
  isplitl [HO]; · iexists _; iexact HO
  isplitl [Hz]; · iexact Hz
  isplitl [Ht]
  · iapply (Entails.of_eq (show pay A B c (some kBar) true = iprop(someSlot (downD 0 c) 0 1 ∗ someSlot (downD 1 c) 1 1) from rfl)); iexact Ht
  iapply (Entails.of_eq (show pay A B c (some kBar) false = iprop(someSlot (downD 2 c) 2 1 ∗ someSlot (downD 3 c) 3 1) from rfl)); iexact Hf

/-- What the result holds at the end, by the device's own row blocks: each stream has brought the sums of its columns round. -/
def fin (c : Dev nD) : Fin 4 → Fin 4 → Blk F := fun k j =>
  if k = kk j 0 then X A B j 4 c else if k = kk j 1 then X A B j 5 c else if k = kk j 2 then X A B j 6 c else X A B j 3 c

theorem first_eq (c : Dev nD) (σ : Fin 4) : firstBlk A B c σ = X A B σ (0 : Fin 6).val c := by
  show _ = P A B c (kk σ 0) σ
  unfold P
  rw [if_neg (by revert σ; decide), if_neg (by revert σ; decide), if_pos rfl]

/-- The result after the row block two away is stored. -/
def O1 (c : Dev nD) (O : Fin 4 → Fin 4 → Blk F) : Fin 4 → Fin 4 → Blk F :=
  setB O 2 0 4 (wideBlk (wholePay (rowsOf (A c) (k0_off2 c 2#32) (k0_off2_inb c 1)) (B c)))
/-- And after the two halves. -/
def O2 (c : Dev nD) (O : Fin 4 → Fin 4 → Blk F) : Fin 4 → Fin 4 → Blk F :=
  setB (setB (O1 A B c O) 1 0 2 (halfBlk (halfPay (rowsOf (A c) (k0_off2 c 1#32) (k0_off2_inb c 0)) (halfOf (B c) ![0, 0] inb_S768x1536_S768x768_0_0))))
    3 2 2 (halfBlk (halfPay (rowsOf (A c) (k0_off1 c 1#32) (k0_off1_inb c 0)) (halfOf (B c) ![0, 768] inb_S768x1536_S768x768_0_768)))
/-- And after the device's own row block. -/
def O3 (c : Dev nD) (O : Fin 4 → Fin 4 → Blk F) : Fin 4 → Fin 4 → Blk F :=
  setB (O2 A B c O) 0 0 4 (wideBlk (wholePay (rowsOf (A c) (k0_off10 c) (k0_off10_inb c)) (B c)))

/-- Each round of the reduction finds the device's own product in the result. -/
theorem held_0 (c : Dev nD) (O : Fin 4 → Fin 4 → Blk F) (a : Fin 4) :
    O1 A B c O (kk a (0 : Fin 3).succ) a = P A B c (kk a (0 : Fin 3).succ) a := by
  fin_cases a <;> rfl
theorem held_1 (c : Dev nD) (O : Fin 4 → Fin 4 → Blk F) (a : Fin 4) :
    O2 A B c O (kk a (1 : Fin 3).succ) a = P A B c (kk a (1 : Fin 3).succ) a := by
  fin_cases a <;> rfl
theorem held_2 (c : Dev nD) (O : Fin 4 → Fin 4 → Blk F) (a : Fin 4) :
    O3 A B c O (kk a (2 : Fin 3).succ) a = P A B c (kk a (2 : Fin 3).succ) a := by
  fin_cases a <;> rfl

/-- Stream `a` storing a block in the result. -/
abbrev put (O : Fin 4 → Fin 4 → Blk F) (a k : Fin 4) (Y : Blk F) : Fin 4 → Fin 4 → Blk F := setB O k a.val 1 fun _ => Y

/-- The gathering writes every block of the result. -/
theorem fin_eq (c : Dev nD) (O : Fin 4 → Fin 4 → Blk F) :
    put (put (put (put (put (put (put (put (put (put (put (put (put (put (put (put O
        0 0 (X A B 0 3 c)) 1 0 (X A B 1 3 c)) 2 0 (X A B 2 3 c)) 3 0 (X A B 3 3 c))
        0 (kk 0 0) (X A B 0 4 c)) 2 (kk 2 0) (X A B 2 4 c)) 1 (kk 1 0) (X A B 1 4 c)) 3 (kk 3 0) (X A B 3 4 c))
        0 (kk 0 1) (X A B 0 5 c)) 2 (kk 2 1) (X A B 2 5 c)) 1 (kk 1 1) (X A B 1 5 c)) 3 (kk 3 1) (X A B 3 5 c))
        0 (kk 0 2) (X A B 0 6 c)) 2 (kk 2 2) (X A B 2 6 c)) 1 (kk 1 2) (X A B 1 6 c)) 3 (kk 3 2) (X A B 3 6 c)
      = fin A B c := by
  funext k j
  fin_cases k <;> fin_cases j <;> simp [put, setB, fin, kk]

/-- What a device starts the body with. -/
def given (c : Dev nD) : sProp 𝕄 :=
  iprop(owe c plan
    ∗ (dutyTok ER (cell (leftD c) kBar) 0 true ∗ dutyTok ER (cell (rightD c) kBar) 0 false
      ∗ atPos ER (cell c kBar) 0 ∅ 0 ∗ cred (tallyAt (cell c kBar) () 2))
    ∗ (stock c 0 [0, 1, 2, 3, 4, 5] [0, 1, 2, 3, 4] [] [] ∗ stock c 1 [0, 1, 2, 3, 4, 5] [0, 1, 2, 3, 4] [] []
      ∗ stock c 2 [0, 1, 2, 3, 4, 5] [0, 1, 2, 3, 4] [] [] ∗ stock c 3 [0, 1, 2, 3, 4, 5] [0, 1, 2, 3, 4] [] [])
    ∗ ((someSlot c 0 0 ∗ someSlot c 0 1) ∗ (someSlot c 1 0 ∗ someSlot c 1 1) ∗ (someSlot c 2 0 ∗ someSlot c 2 1) ∗ (someSlot c 3 0 ∗ someSlot c 3 1)))

/-- What a device has when the body ends: nothing owed, every semaphore at zero, its own slots back. -/
def left (c : Dev nD) : sProp 𝕄 :=
  iprop(owe c [] ∗ semVal (cell c kBar) 0
    ∗ (stock c 0 [] [] [5, 4, 3, 2, 1, 0] [4, 3, 2, 1, 0] ∗ stock c 1 [] [] [5, 4, 3, 2, 1, 0] [4, 3, 2, 1, 0]
      ∗ stock c 2 [] [] [5, 4, 3, 2, 1, 0] [4, 3, 2, 1, 0] ∗ stock c 3 [] [] [5, 4, 3, 2, 1, 0] [4, 3, 2, 1, 0])
    ∗ ((someSlot c 0 0 ∗ someSlot c 0 1) ∗ (someSlot c 1 0 ∗ someSlot c 1 1) ∗ (someSlot c 2 0 ∗ someSlot c 2 1) ∗ (someSlot c 3 0 ∗ someSlot c 3 1)))

set_option maxRecDepth 4096 in
/-- The body on a device. -/
theorem body_wp (c : Dev nD) (O : Fin 4 → Fin 4 → Blk F) (Q : PUnit → sProp 𝕄) :
    iprop(know A B K ∗ given c ∗ aPts c (A c) ∗ bPts c (B c) ∗ oPts c O
        ∗ ((left c ∗ aPts c (A c) ∗ bPts c (B c) ∗ oPts c (fin A B c)) -∗ Q ⟨⟩))
      ⊢ run c (bodyP aM bM oM c) Q := by
  unfold given left bodyP plan
  iintro ⟨#HK, ⟨Ho, ⟨Tl, Tr, Hat, Hcr⟩, ⟨G0, G1, G2, G3⟩, ⟨⟨S00, S01⟩, ⟨S10, S11⟩, ⟨S20, S21⟩, ⟨S30, S31⟩⟩⟩, Ha, Hb, Hout, Hk⟩
  -- the neighbours are told
  iapply run_bind
  iapply (signal_wp A B K c .barL _ barS rfl true (Finset.mem_univ _) rfl (leftD c) rfl) $$ [-]
  isplitr; · iexact HK
  isplitl [Ho]; · iexact Ho
  isplitl [Tl]; · iexact Tl
  isplitl [S01 S11]
  · iapply (Entails.of_eq (show iprop(someSlot (F := F) c 0 1 ∗ someSlot c 1 1) = pay A B (Pay.barL.dev c) (some Pay.barL.kd) true by
      show _ = iprop(someSlot (rightD (leftD c)) 0 1 ∗ someSlot (rightD (leftD c)) 1 1); rw [right_left]))
    isplitl [S01]; · iexact S01
    iexact S11
  iintro Ho
  iapply run_bind
  iapply (signal_wp A B K c .barR _ barS rfl false (Finset.mem_univ _) rfl (rightD c) rfl) $$ [-]
  isplitr; · iexact HK
  isplitl [Ho]; · iexact Ho
  isplitl [Tr]; · iexact Tr
  isplitl [S21 S31]
  · iapply (Entails.of_eq (show iprop(someSlot (F := F) c 2 1 ∗ someSlot c 3 1) = pay A B (Pay.barR.dev c) (some Pay.barR.kd) false by
      show _ = iprop(someSlot (leftD (rightD c)) 2 1 ∗ someSlot (leftD (rightD c)) 3 1); rw [left_right]))
    isplitl [S21]; · iexact S21
    iexact S31
  iintro Ho
  iapply run_bind
  iapply (firstDot_wp A B 0 c) $$ [-]
  isplitl [Ha]; · iexact Ha
  isplitl [Hb]; · iexact Hb
  isplitl [S00]; · iexact S00
  iintro ⟨Ha, Hb, S00⟩
  iapply run_bind
  iapply (wait_bar A B K c (plan.drop 2) (by decide)) $$ [-]
  isplitr; · iexact HK
  isplitl [Ho]; · iexact Ho
  isplitl [Hat]; · iexact Hat
  isplitl [Hcr]; · iexact Hcr
  iintro ⟨Ho, Hz, ⟨D0, D1⟩, ⟨D2, D3⟩⟩
  iapply run_bind
  iapply (start_hop A B K 0 0 c _ _ _ _ _ _ (first_eq A B c 0) 0 1 rfl rfl) $$ [-]
  isplitr; · iexact HK
  isplitl [Ho]; · iexact Ho
  isplitl [G0]; · iexact G0
  isplitl [S00]; · iexact S00
  isplitl [D0]; · iexact D0
  iintro ⟨Ho, G0, F0⟩
  iapply run_bind
  iapply (firstDot_wp A B 2 c) $$ [-]
  isplitl [Ha]; · iexact Ha
  isplitl [Hb]; · iexact Hb
  isplitl [S20]; · iexact S20
  iintro ⟨Ha, Hb, S20⟩
  iapply run_bind
  iapply (start_hop A B K 2 0 c _ _ _ _ _ _ (first_eq A B c 2) 0 1 rfl rfl) $$ [-]
  isplitr; · iexact HK
  isplitl [Ho]; · iexact Ho
  isplitl [G2]; · iexact G2
  isplitl [S20]; · iexact S20
  isplitl [D2]; · iexact D2
  iintro ⟨Ho, G2, F2⟩
  iapply run_bind
  iapply (firstDot_wp A B 1 c) $$ [-]
  isplitl [Ha]; · iexact Ha
  isplitl [Hb]; · iexact Hb
  isplitl [S10]; · iexact S10
  iintro ⟨Ha, Hb, S10⟩
  iapply run_bind
  iapply (start_hop A B K 1 0 c _ _ _ _ _ _ (first_eq A B c 1) 0 1 rfl rfl) $$ [-]
  isplitr; · iexact HK
  isplitl [Ho]; · iexact Ho
  isplitl [G1]; · iexact G1
  isplitl [S10]; · iexact S10
  isplitl [D1]; · iexact D1
  iintro ⟨Ho, G1, F1⟩
  iapply run_bind
  iapply (firstDot_wp A B 3 c) $$ [-]
  isplitl [Ha]; · iexact Ha
  isplitl [Hb]; · iexact Hb
  isplitl [S30]; · iexact S30
  iintro ⟨Ha, Hb, S30⟩
  iapply run_bind
  iapply (start_hop A B K 3 0 c _ _ _ _ _ _ (first_eq A B c 3) 0 1 rfl rfl) $$ [-]
  isplitr; · iexact HK
  isplitl [Ho]; · iexact Ho
  isplitl [G3]; · iexact G3
  isplitl [S30]; · iexact S30
  isplitl [D3]; · iexact D3
  iintro ⟨Ho, G3, F3⟩
  -- the reduction
  iapply run_bind
  iapply (rowsWhole_wp c (A c) (B c) O 2 _ _ (k0_off2_inb c 1) (k0_off3_inb c) (off3_eq c)) $$ [-]
  isplitl [Ha]; · iexact Ha
  isplitl [Hb]; · iexact Hb
  isplitl [Hout]; · iexact Hout
  iintro ⟨Ha, Hb, Hout⟩
  iapply run_bind
  iapply (reduce_wp A B K 0 2 0 c (plan.drop 10) (by decide) (by decide) (by decide) (by decide) _ _ _ _ _ _ _ _ _ (held_0 A B c O 0) (held_0 A B c O 2)) $$ [-]
  isplitr; · iexact HK
  isplitl [Ho]; · iexact Ho
  isplitl [G0]; · iexact G0
  isplitl [G2]; · iexact G2
  isplitl [F0]; · iexact F0
  isplitl [F2]; · iexact F2
  isplitl [Hout]; · iexact Hout
  iintro ⟨Ho, G0, G2, F0, F2, Hout⟩
  iapply run_bind
  iapply (reduce_wp A B K 1 3 0 c (plan.drop 14) (by decide) (by decide) (by decide) (by decide) _ _ _ _ _ _ _ _ _ (held_0 A B c O 1) (held_0 A B c O 3)) $$ [-]
  isplitr; · iexact HK
  isplitl [Ho]; · iexact Ho
  isplitl [G1]; · iexact G1
  isplitl [G3]; · iexact G3
  isplitl [F1]; · iexact F1
  isplitl [F3]; · iexact F3
  isplitl [Hout]; · iexact Hout
  iintro ⟨Ho, G1, G3, F1, F3, Hout⟩
  iapply run_bind
  iapply (rowsHalf_wp c (A c) (B c) _ 1 0 rfl _ _ _ (k0_off2_inb c 0) inb_S768x1536_S768x768_0_0 (k0_off8_inb c) (off8_eq c)) $$ [-]
  isplitl [Ha]; · iexact Ha
  isplitl [Hb]; · iexact Hb
  isplitl [Hout]; · iexact Hout
  iintro ⟨Ha, Hb, Hout⟩
  iapply run_bind
  iapply (rowsHalf_wp c (A c) (B c) _ 3 2 rfl _ _ _ (k0_off1_inb c 0) inb_S768x1536_S768x768_0_768 (k0_off9_inb c) (off9_eq c)) $$ [-]
  isplitl [Ha]; · iexact Ha
  isplitl [Hb]; · iexact Hb
  isplitl [Hout]; · iexact Hout
  iintro ⟨Ha, Hb, Hout⟩
  iapply run_bind
  iapply (reduce_wp A B K 0 2 1 c (plan.drop 18) (by decide) (by decide) (by decide) (by decide) _ _ _ _ _ _ _ _ _ (held_1 A B c O 0) (held_1 A B c O 2)) $$ [-]
  isplitr; · iexact HK
  isplitl [Ho]; · iexact Ho
  isplitl [G0]; · iexact G0
  isplitl [G2]; · iexact G2
  isplitl [F0]; · iexact F0
  isplitl [F2]; · iexact F2
  isplitl [Hout]; · iexact Hout
  iintro ⟨Ho, G0, G2, F0, F2, Hout⟩
  iapply run_bind
  iapply (reduce_wp A B K 1 3 1 c (plan.drop 22) (by decide) (by decide) (by decide) (by decide) _ _ _ _ _ _ _ _ _ (held_1 A B c O 1) (held_1 A B c O 3)) $$ [-]
  isplitr; · iexact HK
  isplitl [Ho]; · iexact Ho
  isplitl [G1]; · iexact G1
  isplitl [G3]; · iexact G3
  isplitl [F1]; · iexact F1
  isplitl [F3]; · iexact F3
  isplitl [Hout]; · iexact Hout
  iintro ⟨Ho, G1, G3, F1, F3, Hout⟩
  iapply run_bind
  iapply (rowsWhole_wp c (A c) (B c) _ 0 _ _ (k0_off10_inb c) (k0_off11_inb c) (off11_eq c)) $$ [-]
  isplitl [Ha]; · iexact Ha
  isplitl [Hb]; · iexact Hb
  isplitl [Hout]; · iexact Hout
  iintro ⟨Ha, Hb, Hout⟩
  iapply run_bind
  iapply (reduce_wp A B K 0 2 2 c (plan.drop 26) (by decide) (by decide) (by decide) (by decide) _ _ _ _ _ _ _ _ _ (held_2 A B c O 0) (held_2 A B c O 2)) $$ [-]
  isplitr; · iexact HK
  isplitl [Ho]; · iexact Ho
  isplitl [G0]; · iexact G0
  isplitl [G2]; · iexact G2
  isplitl [F0]; · iexact F0
  isplitl [F2]; · iexact F2
  isplitl [Hout]; · iexact Hout
  iintro ⟨Ho, G0, G2, F0, F2, Hout⟩
  iapply run_bind
  iapply (reduce_wp A B K 1 3 2 c (plan.drop 30) (by decide) (by decide) (by decide) (by decide) _ _ _ _ _ _ _ _ _ (held_2 A B c O 1) (held_2 A B c O 3)) $$ [-]
  isplitr; · iexact HK
  isplitl [Ho]; · iexact Ho
  isplitl [G1]; · iexact G1
  isplitl [G3]; · iexact G3
  isplitl [F1]; · iexact F1
  isplitl [F3]; · iexact F3
  isplitl [Hout]; · iexact Hout
  iintro ⟨Ho, G1, G3, F1, F3, Hout⟩
  -- the gathering
  iapply run_bind
  iapply (copyFly_wp A B 0 3 1 rfl c _ 0 _ _ (ownOff_eq 0 c)) $$ [-]
  isplitl [F0]; · iexact F0
  isplitl [Hout]; · iexact Hout
  iintro ⟨F0, Hout⟩
  iapply run_bind
  iapply (copyFly_wp A B 1 3 1 rfl c _ 0 _ _ (ownOff_eq 1 c)) $$ [-]
  isplitl [F1]; · iexact F1
  isplitl [Hout]; · iexact Hout
  iintro ⟨F1, Hout⟩
  iapply run_bind
  iapply (copyFly_wp A B 2 3 1 rfl c _ 0 _ _ (ownOff_eq 2 c)) $$ [-]
  isplitl [F2]; · iexact F2
  isplitl [Hout]; · iexact Hout
  iintro ⟨F2, Hout⟩
  iapply run_bind
  iapply (copyFly_wp A B 3 3 1 rfl c _ 0 _ _ (ownOff_eq 3 c)) $$ [-]
  isplitl [F3]; · iexact F3
  isplitl [Hout]; · iexact Hout
  iintro ⟨F3, Hout⟩
  iapply run_bind
  iapply (gather_wp A B K 0 2 3 (by decide) 0 c (plan.drop 34) (by decide) (by decide) (by decide) (by decide)) $$ [-]
  isplitr; · iexact HK
  isplitl [Ho]; · iexact Ho
  isplitl [G0]; · iexact G0
  isplitl [G2]; · iexact G2
  isplitl [F0]; · iexact F0
  isplitl [F2]; · iexact F2
  isplitl [Hout]; · iexact Hout
  iintro ⟨Ho, G0, G2, F0, F2, Hout⟩
  iapply run_bind
  iapply (gather_wp A B K 1 3 3 (by decide) 0 c (plan.drop 38) (by decide) (by decide) (by decide) (by decide)) $$ [-]
  isplitr; · iexact HK
  isplitl [Ho]; · iexact Ho
  isplitl [G1]; · iexact G1
  isplitl [G3]; · iexact G3
  isplitl [F1]; · iexact F1
  isplitl [F3]; · iexact F3
  isplitl [Hout]; · iexact Hout
  iintro ⟨Ho, G1, G3, F1, F3, Hout⟩
  iapply run_bind
  iapply (gather_wp A B K 0 2 4 (by decide) 1 c (plan.drop 42) (by decide) (by decide) (by decide) (by decide)) $$ [-]
  isplitr; · iexact HK
  isplitl [Ho]; · iexact Ho
  isplitl [G0]; · iexact G0
  isplitl [G2]; · iexact G2
  isplitl [F0]; · iexact F0
  isplitl [F2]; · iexact F2
  isplitl [Hout]; · iexact Hout
  iintro ⟨Ho, G0, G2, F0, F2, Hout⟩
  iapply run_bind
  iapply (gather_wp A B K 1 3 4 (by decide) 1 c (plan.drop 46) (by decide) (by decide) (by decide) (by decide)) $$ [-]
  isplitr; · iexact HK
  isplitl [Ho]; · iexact Ho
  isplitl [G1]; · iexact G1
  isplitl [G3]; · iexact G3
  isplitl [F1]; · iexact F1
  isplitl [F3]; · iexact F3
  isplitl [Hout]; · iexact Hout
  iintro ⟨Ho, G1, G3, F1, F3, Hout⟩
  iapply run_bind
  iapply (gatherLast_wp A B K 0 2 c) $$ [-]
  isplitr; · iexact HK
  isplitl [Ho]; · iexact Ho
  isplitl [G0]; · iexact G0
  isplitl [G2]; · iexact G2
  isplitl [F0]; · iexact F0
  isplitl [F2]; · iexact F2
  isplitl [Hout]; · iexact Hout
  iintro ⟨Ho, G0, G2, S0, S2, Hout⟩
  iapply (gatherLast_wp A B K 1 3 c) $$ [-]
  isplitr; · iexact HK
  isplitl [Ho]; · iexact Ho
  isplitl [G1]; · iexact G1
  isplitl [G3]; · iexact G3
  isplitl [F1]; · iexact F1
  isplitl [F3]; · iexact F3
  isplitl [Hout]; · iexact Hout
  iintro ⟨Ho, G1, G3, S1, S3, Hout⟩
  iapply Hk
  isplitl [Ho Hz G0 G1 G2 G3 S0 S1 S2 S3]
  · isplitl [Ho]; · iexact Ho
    isplitl [Hz]; · iexact Hz
    isplitl [G0 G1 G2 G3]
    · isplitl [G0]; · iexact G0
      isplitl [G1]; · iexact G1
      isplitl [G2]; · iexact G2
      iexact G3
    isplitl [S0]; · iexact S0
    isplitl [S1]; · iexact S1
    isplitl [S2]; · iexact S2
    iexact S3
  isplitl [Ha]; · iexact Ha
  isplitl [Hb]; · iexact Hb
  iapply (Entails.of_eq (congrArg (oPts c) (fin_eq A B c (O3 A B c O)))); iexact Hout

end Cert.KernelIdeal.Own

end

end
-- ==== Proof.Deal.lean ====
/- What the launch deals the devices: the semaphores and tokens of each, the credit, and the buffers as slots. -/
module

public import proofs.«01_k».proof.Proof.Body
public import Idealize.ShloMosaic.Lib.Ring

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → FVec F S1536x768 .f32) (B : Dev nD → FVec F S768x1536 .f32)

variable (A : Dev nD → FVec F S1536x768 .f32) (B : Dev nD → FVec F S768x1536 .f32)

/-! ## A buffer is its two slots -/

theorem mem_slotR (k : Fin 2) (y : S2x384x384.Idx) : y ∈ (slotR k).set ↔ (y 0).val = k.val := by
  rw [Rect.mem_set_unit]
  have h1 : (y 1).val < 384 := (y 1).isLt
  have h2 : (y 2).val < 384 := (y 2).isLt
  refine ⟨fun H => ?_, fun H a => ?_⟩
  · have a0 : k.val ≤ (y 0).val ∧ (y 0).val < k.val + 1 := H 0
    omega
  · fin_cases a
    · show k.val ≤ (y 0).val ∧ (y 0).val < k.val + 1; omega
    · show 0 ≤ (y 1).val ∧ (y 1).val < 0 + 384; omega
    · show 0 ≤ (y 2).val ∧ (y 2).val < 0 + 384; omega

theorem slotR_disjoint : ∀ k k' : Fin 2, k ≠ k' → Disjoint (slotR k).set (slotR k').set := by
  intro k k' hne
  rw [Finset.disjoint_left]
  intro y hy hy'
  rw [mem_slotR] at hy hy'
  exact hne (Fin.ext (hy.symm.trans hy'))

theorem slotR_cover : (Finset.univ : Finset (Fin 2)).biUnion (fun k => (slotR k).set) = Finset.univ := by
  ext y
  simp only [Finset.mem_biUnion, Finset.mem_univ, true_and, iff_true]
  exact ⟨(y 0).cast (by decide), by rw [mem_slotR]; rfl⟩

/-- A slot at some contents, by its elements in the buffer. -/
theorem slot_whole (b : Ref sig .tc) (r : Rect b.ty.shape) (hr : ∀ a, r.stride a = 1) (s : Shape) (hs : r.shape.Squeezes s) (c : Dev nD) :
    (iprop(∃ Y : s.Idx → Elt F b.ty.elt, owns (c : Thread nD τ) (((Memref.whole b).slice r hr).squeeze s hs) fullShare Y) : sProp 𝕄)
      = iprop(∃ f : Buf (Elt F) ((c : Thread nD τ).loc b), ((c : Thread nD τ).loc b) ↦[r.set]{fullShare} f) := by
  have e : (((Memref.whole b).slice r hr).squeeze s hs).view.set = r.set := (View.set_reshape _ _).trans (View.set_slice_whole _ _)
  have h1 : (iprop(∃ Y : s.Idx → Elt F b.ty.elt, owns (c : Thread nD τ) (((Memref.whole b).slice r hr).squeeze s hs) fullShare Y) : sProp 𝕄)
      ⊢ iprop(∃ f : Buf (Elt F) ((c : Thread nD τ).loc b), ((c : Thread nD τ).loc b) ↦[r.set]{fullShare} f) := by
    unfold owns
    iintro ⟨%Y, %f, -, H⟩
    iexists f
    iapply (Entails.of_eq (congrArg (fun S => (((c : Thread nD τ).loc b) ↦[S]{fullShare} f : sProp 𝕄)) e)); iexact H
  have h2 : (iprop(∃ f : Buf (Elt F) ((c : Thread nD τ).loc b), ((c : Thread nD τ).loc b) ↦[r.set]{fullShare} f) : sProp 𝕄)
      ⊢ iprop(∃ Y : s.Idx → Elt F b.ty.elt, owns (c : Thread nD τ) (((Memref.whole b).slice r hr).squeeze s hs) fullShare Y) := by
    iintro ⟨%f, H⟩
    iexists _
    iapply (owns_intro (c : Thread nD τ) (((Memref.whole b).slice r hr).squeeze s hs) fullShare f)
    iapply (Entails.of_eq (congrArg (fun S => (((c : Thread nD τ).loc b) ↦[S]{fullShare} f : sProp 𝕄)) e.symm)); iexact H
  exact h1.antisymm h2

theorem bigSep_fin2 (Φ : Fin 2 → sProp 𝕄) : bigSep Finset.univ Φ = iprop(Φ 0 ∗ Φ 1) := bigSep_univ_eq_bigSepL [0, 1] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A buffer whole at some contents. -/
abbrev someBuf (c : Dev nD) (b : Ref sig .tc) : sProp 𝕄 :=
  iprop(∃ f : Buf (Elt F) ((c : Thread nD τ).loc b), ((c : Thread nD τ).loc b) ↦{fullShare} f)

/-- A location cut in two element sets by index, at some contents, and joined again. -/
theorem cut_two (ℓ : Loc nD τ sig) (I : Fin 2 → Finset (Idx ℓ)) (hd : ∀ k k', k ≠ k' → Disjoint (I k) (I k'))
    (hc : Finset.univ.biUnion I = Finset.univ) :
    (iprop(∃ f : Buf (Elt F) ℓ, ℓ ↦{fullShare} f) : sProp 𝕄) = iprop((∃ f : Buf (Elt F) ℓ, ℓ ↦[I 0]{fullShare} f) ∗ ∃ f : Buf (Elt F) ℓ, ℓ ↦[I 1]{fullShare} f) := by
  have h1 : (iprop(∃ f : Buf (Elt F) ℓ, ℓ ↦{fullShare} f) : sProp 𝕄)
      ⊢ iprop((∃ f : Buf (Elt F) ℓ, ℓ ↦[I 0]{fullShare} f) ∗ ∃ f : Buf (Elt F) ℓ, ℓ ↦[I 1]{fullShare} f) := by
    iintro ⟨%f, H⟩
    ihave H2 := (Entails.of_eq ((Ring.pointsTo_blocks (Ix := Unit) (Name := ℕ) (U := UU) (Lvl := ℕ) (q := fullShare) I hd hc f).trans (bigSep_fin2 _))) $$ H
    icases H2 with ⟨H0, H1⟩
    isplitl [H0]
    · iexists f; iexact H0
    · iexists f; iexact H1
  have h2 : (iprop((∃ f : Buf (Elt F) ℓ, ℓ ↦[I 0]{fullShare} f) ∗ ∃ f : Buf (Elt F) ℓ, ℓ ↦[I 1]{fullShare} f) : sProp 𝕄)
      ⊢ iprop(∃ f : Buf (Elt F) ℓ, ℓ ↦{fullShare} f) := by
    iintro ⟨⟨%f, H0⟩, ⟨%g, H1⟩⟩
    iapply (Ring.pointsTo_blocks_join_exists I hd hc f)
    rw [bigSep_fin2]
    isplitl [H0]
    · iexists f; iexact H0
    · iexists g; iexact H1
  exact h1.antisymm h2

/-- A whole buffer of two slots. -/
theorem two_slots (b : Ref sig .tc) (hb : b.ty.shape = S2x384x384) (I : Fin 2 → Rect b.ty.shape) (hr : ∀ k a, (I k).stride a = 1)
    (hd : ∀ k k', k ≠ k' → Disjoint (I k).set (I k').set) (hc : Finset.univ.biUnion (fun k => (I k).set) = Finset.univ)
    (hs : ∀ k, (I k).shape.Squeezes S384x384) (c : Dev nD) :
    (iprop((∃ Y : S384x384.Idx → Elt F b.ty.elt, owns (c : Thread nD τ) (((Memref.whole b).slice (I 0) (hr 0)).squeeze S384x384 (hs 0)) fullShare Y)
        ∗ ∃ Y : S384x384.Idx → Elt F b.ty.elt, owns (c : Thread nD τ) (((Memref.whole b).slice (I 1) (hr 1)).squeeze S384x384 (hs 1)) fullShare Y) : sProp 𝕄)
      = someBuf c b := by
  rw [slot_whole b (I 0) (hr 0) S384x384 (hs 0) c, slot_whole b (I 1) (hr 1) S384x384 (hs 1) c]
  exact (cut_two ((c : Thread nD τ).loc b) (fun k => (I k).set) hd hc).symm

theorem slots_eq0 (c : Dev nD) : (iprop(someSlot c 0 0 ∗ someSlot c 0 1) : sProp 𝕄) = someBuf c cc0_scratch0 :=
  two_slots cc0_scratch0 rfl slotR (fun _ _ => rfl) slotR_disjoint slotR_cover (fun _ => squeezes_S1x384x384_S384x384) c
theorem slots_eq1 (c : Dev nD) : (iprop(someSlot c 1 0 ∗ someSlot c 1 1) : sProp 𝕄) = someBuf c cc0_scratch1 :=
  two_slots cc0_scratch1 rfl slotR (fun _ _ => rfl) slotR_disjoint slotR_cover (fun _ => squeezes_S1x384x384_S384x384) c
theorem slots_eq2 (c : Dev nD) : (iprop(someSlot c 2 0 ∗ someSlot c 2 1) : sProp 𝕄) = someBuf c cc0_scratch2 :=
  two_slots cc0_scratch2 rfl slotR (fun _ _ => rfl) slotR_disjoint slotR_cover (fun _ => squeezes_S1x384x384_S384x384) c
theorem slots_eq3 (c : Dev nD) : (iprop(someSlot c 3 0 ∗ someSlot c 3 1) : sProp 𝕄) = someBuf c cc0_scratch3 :=
  two_slots cc0_scratch3 rfl slotR (fun _ _ => rfl) slotR_disjoint slotR_cover (fun _ => squeezes_S1x384x384_S384x384) c

/-! ## The stocks, from what is dealt by semaphore -/

theorem all_eq {I : Type} (Φ : I → sProp 𝕄) : ∀ l : List I, all Φ l = bigSepL l Φ
  | [] => rfl
  | i :: l => by rw [all, all_eq Φ l, bigSepL_cons]; rfl

theorem all_six (Φ : Fin 6 → sProp 𝕄) : all Φ [0, 1, 2, 3, 4, 5] = bigSep Finset.univ Φ :=
  (all_eq Φ _).trans (bigSep_univ_eq_bigSepL _ (by decide) (by decide) Φ).symm
theorem all_six' (Φ : Fin 6 → sProp 𝕄) : all Φ [5, 4, 3, 2, 1, 0] = bigSep Finset.univ Φ :=
  (all_eq Φ _).trans (bigSep_univ_eq_bigSepL _ (by decide) (by decide) Φ).symm
theorem all_five (Φ : Fin 5 → sProp 𝕄) : all Φ [0, 1, 2, 3, 4] = bigSep Finset.univ Φ :=
  (all_eq Φ _).trans (bigSep_univ_eq_bigSepL _ (by decide) (by decide) Φ).symm
theorem all_five' (Φ : Fin 5 → sProp 𝕄) : all Φ [4, 3, 2, 1, 0] = bigSep Finset.univ Φ :=
  (all_eq Φ _).trans (bigSep_univ_eq_bigSepL _ (by decide) (by decide) Φ).symm

/-- A conjunction over a device's semaphores, sort by sort. -/
theorem bigSep_Kx (Φ : Kx → sProp 𝕄) : bigSep Finset.univ Φ
    = iprop(((bigSep Finset.univ fun x : Fin 4 × Fin 6 => Φ (.inl (.inl x))) ∗ bigSep Finset.univ fun x : Fin 4 × Fin 6 => Φ (.inl (.inr x)))
        ∗ bigSep Finset.univ fun y : Fin 4 × Fin 5 => Φ (.inr y)) := by
  refine (bigSep_univ_sum Φ).trans ?_
  rw [bigSep_univ_sum fun a => Φ (.inl a)]; rfl
theorem bigSep_Kd (Φ : Kd → sProp 𝕄) : bigSep Finset.univ Φ
    = iprop((((bigSep Finset.univ fun x : Fin 4 × Fin 6 => Φ (kSend x.1 x.2)) ∗ bigSep Finset.univ fun x : Fin 4 × Fin 6 => Φ (kRecv x.1 x.2))
        ∗ bigSep Finset.univ fun y : Fin 4 × Fin 5 => Φ (kFree y.1 y.2)) ∗ Φ kBar) := by
  refine (bigSep_univ_sum Φ).trans ?_
  rw [bigSep_Kx fun a => Φ (.inl a), show bigSep Finset.univ (fun b : Unit => Φ (.inr b)) = Φ kBar from bigSep_univ_eq_bigSepL [()] (by decide) (by decide) _]; rfl

/-- What a device pays with: tokens of its neighbours' semaphores, and of its own for the sends. -/
def payToks (c : Dev nD) : sProp 𝕄 :=
  iprop((dutyTok ER (cell (leftD c) kBar) 0 true ∗ dutyTok ER (cell (rightD c) kBar) 0 false)
    ∗ (bigSep Finset.univ fun x : Fin 4 × Fin 6 => dutyTok ER (cell c (kSend x.1 x.2)) 0 false)
    ∗ (bigSep Finset.univ fun x : Fin 4 × Fin 6 => dutyTok ER (cell (downD x.1 c) (kRecv x.1 x.2)) 0 false)
    ∗ bigSep Finset.univ fun y : Fin 4 × Fin 5 => dutyTok ER (cell (upD y.1 c) (kFree y.1 y.2)) 0 false)
/-- The credit for what the other devices will bring. -/
def credits (c : Dev nD) : sProp 𝕄 :=
  iprop(cred (tallyAt (cell c kBar) () 2)
    ∗ (bigSep Finset.univ fun x : Fin 4 × Fin 6 => cred (tallyAt (cell c (kRecv x.1 x.2)) () N))
    ∗ bigSep Finset.univ fun y : Fin 4 × Fin 5 => cred (tallyAt (cell c (kFree y.1 y.2)) () 1))

/-- A device's tokens, positions and credit, as the body takes them. -/
def kit (c : Dev nD) : sProp 𝕄 :=
  iprop((dutyTok ER (cell (leftD c) kBar) 0 true ∗ dutyTok ER (cell (rightD c) kBar) 0 false
      ∗ atPos ER (cell c kBar) 0 ∅ 0 ∗ cred (tallyAt (cell c kBar) () 2))
    ∗ (stock c 0 [0, 1, 2, 3, 4, 5] [0, 1, 2, 3, 4] [] [] ∗ stock c 1 [0, 1, 2, 3, 4, 5] [0, 1, 2, 3, 4] [] []
      ∗ stock c 2 [0, 1, 2, 3, 4, 5] [0, 1, 2, 3, 4] [] [] ∗ stock c 3 [0, 1, 2, 3, 4, 5] [0, 1, 2, 3, 4] [] []))

theorem stocks_eq (c : Dev nD) :
    (bigSep Finset.univ fun σ : Fin 4 => (stock c σ [0, 1, 2, 3, 4, 5] [0, 1, 2, 3, 4] [] [] : sProp 𝕄))
      = iprop((bigSep Finset.univ fun x : Fin 4 × Fin 6 => hopKit c x.1 x.2) ∗ bigSep Finset.univ fun y : Fin 4 × Fin 5 => freeKit c y.1 y.2) := by
  have e (σ : Fin 4) : (stock c σ [0, 1, 2, 3, 4, 5] [0, 1, 2, 3, 4] [] [] : sProp 𝕄)
      = iprop((bigSep Finset.univ fun h : Fin 6 => hopKit c σ h) ∗ bigSep Finset.univ fun h : Fin 5 => freeKit c σ h) := by
    unfold stock
    rw [all_six, all_five, all, all, sep_emp_eq'', sep_emp_eq'']
  rw [bigSep_congr (s := Finset.univ) fun σ _ => e σ, bigSep_sep', bigSep_univ_prod, bigSep_univ_prod]

theorem dones_eq (c : Dev nD) :
    (bigSep Finset.univ fun σ : Fin 4 => (stock c σ [] [] [5, 4, 3, 2, 1, 0] [4, 3, 2, 1, 0] : sProp 𝕄))
      = iprop((bigSep Finset.univ fun x : Fin 4 × Fin 6 => hopDone c x.1 x.2) ∗ bigSep Finset.univ fun y : Fin 4 × Fin 5 => freeDone c y.1 y.2) := by
  have e (σ : Fin 4) : (stock c σ [] [] [5, 4, 3, 2, 1, 0] [4, 3, 2, 1, 0] : sProp 𝕄)
      = iprop((bigSep Finset.univ fun h : Fin 6 => hopDone c σ h) ∗ bigSep Finset.univ fun h : Fin 5 => freeDone c σ h) := by
    unfold stock
    rw [all_six', all_five', all, all, emp_sep_eq'', emp_sep_eq'']
  rw [bigSep_congr (s := Finset.univ) fun σ _ => e σ, bigSep_sep', bigSep_univ_prod, bigSep_univ_prod]

theorem kit_intro (c : Dev nD) :
    iprop((bigSep Finset.univ fun k : Kd => atPos ER (cell c k) 0 ∅ 0) ∗ payToks c ∗ credits c) ⊢ (kit c : sProp 𝕄) := by
  unfold kit payToks credits
  rw [← bigSep_fin4 fun σ => stock c σ [0, 1, 2, 3, 4, 5] [0, 1, 2, 3, 4] [] [], stocks_eq, bigSep_Kd]
  unfold hopKit freeKit
  simp only [bigSep_sep']
  iintro ⟨⟨⟨⟨Hs, Hr⟩, Hf⟩, Hb⟩, ⟨⟨Tl, Tr⟩, Ts, Tv, Tf⟩, Cb, Cv, Cf⟩
  isplitl [Tl Tr Hb Cb]
  · isplitl [Tl]; · iexact Tl
    isplitl [Tr]; · iexact Tr
    isplitl [Hb]; · iexact Hb
    iexact Cb
  isplitl [Ts Tv Hs Hr Cv]
  · isplitl [Ts]; · iexact Ts
    isplitl [Tv]; · iexact Tv
    isplitl [Hs]; · iexact Hs
    isplitl [Hr]; · iexact Hr
    iexact Cv
  isplitl [Tf]; · iexact Tf
  isplitl [Hf]; · iexact Hf
  iexact Cf

/-- The kernel's own semaphores at zero, out of the stocks at the end. -/
theorem sems_back (c : Dev nD) :
    iprop(stock c 0 [] [] [5, 4, 3, 2, 1, 0] [4, 3, 2, 1, 0] ∗ stock c 1 [] [] [5, 4, 3, 2, 1, 0] [4, 3, 2, 1, 0]
      ∗ stock c 2 [] [] [5, 4, 3, 2, 1, 0] [4, 3, 2, 1, 0] ∗ stock c 3 [] [] [5, 4, 3, 2, 1, 0] [4, 3, 2, 1, 0])
      ⊢ (Pipeline.ownSems0 osem c : sProp 𝕄) := by
  rw [← bigSep_fin4 fun σ => stock c σ [] [] [5, 4, 3, 2, 1, 0] [4, 3, 2, 1, 0], dones_eq]
  unfold Pipeline.ownSems0 hopDone freeDone
  rw [bigSep_Kx, bigSep_sep']

/-! ## The tokens dealt to the devices that pay with them -/

/-- A family over the devices, each index of it carried along its own permutation of them. -/
theorem around {I : Type} [Fintype I] (e : I → Dev nD ≃ Dev nD) (Φ : Dev nD → I → sProp 𝕄) :
    (bigSep Finset.univ fun c : Dev nD => bigSep Finset.univ fun x : I => Φ c x)
      = bigSep Finset.univ fun c : Dev nD => bigSep Finset.univ fun x : I => Φ (e x c) x := by
  rw [← bigSep_univ_prod fun p : Dev nD × I => Φ p.1 p.2, ← bigSep_univ_prod fun p : Dev nD × I => Φ (e p.2 p.1) p.2]
  exact bigSep_univ_equiv (⟨fun p => (e p.2 p.1, p.2), fun p => ((e p.2).symm p.1, p.2),
    fun p => by simp, fun p => by simp⟩ : Dev nD × I ≃ Dev nD × I) fun p => Φ p.1 p.2

def downE (σ : Fin 4) : Dev nD ≃ Dev nD := ⟨downD σ, upD σ, up_down σ, down_up σ⟩
def leftE : Dev nD ≃ Dev nD := ⟨leftD, rightD, right_left, left_right⟩

/-- The tokens of a device's own semaphores. -/
def toks (c : Dev nD) : sProp 𝕄 :=
  iprop((bigSep Finset.univ fun k : Kd => dutyTok ER (cell c k) 0 false) ∗ dutyTok ER (cell c kBar) 0 true)

theorem toks_around : (bigSep Finset.univ fun c : Dev nD => (toks c : sProp 𝕄)) ⊢ bigSep Finset.univ fun c : Dev nD => payToks c := by
  unfold toks payToks
  rw [bigSep_congr (s := Finset.univ) fun (c : Dev nD) _ => congrArg (fun P : sProp 𝕄 => iprop(P ∗ dutyTok ER (cell c kBar) 0 true)) (bigSep_Kd fun k => (dutyTok ER (cell c k) 0 false : sProp 𝕄))]
  simp only [bigSep_sep']
  rw [around (fun x : Fin 4 × Fin 6 => downE x.1) fun c x => (dutyTok ER (cell c (kRecv x.1 x.2)) 0 false : sProp 𝕄),
    around (fun y : Fin 4 × Fin 5 => (downE y.1).symm) fun c y => (dutyTok ER (cell c (kFree y.1 y.2)) 0 false : sProp 𝕄),
    bigSep_univ_equiv leftE.symm fun c : Dev nD => (dutyTok ER (cell c kBar) 0 false : sProp 𝕄),
    bigSep_univ_equiv leftE fun c : Dev nD => (dutyTok ER (cell c kBar) 0 true : sProp 𝕄)]
  iintro ⟨⟨⟨⟨Hs, Hv⟩, Hf⟩, Hb⟩, Ht⟩
  isplitl [Hb Ht]
  · isplitl [Ht]; · iexact Ht
    iexact Hb
  isplitl [Hs]; · iexact Hs
  isplitl [Hv]; · iexact Hv
  iexact Hf

/-! ## The credit -/

theorem cell_eq_iff {a b : Dev nD} {k k' : Kd} : cell a k = cell b k' ↔ a = b ∧ k = k' := by
  refine ⟨fun h => ⟨Fin.ext (congrArg (fun g : GSem nD τ sig => g.1.1.val) h), sl_injective (congrArg Prod.snd h)⟩, fun ⟨h, h'⟩ => by rw [h, h']⟩

/-- How many of a device's payments go to a semaphore. -/
def hits (d c : Dev nD) (k : Kd) : List Pay → ℕ
  | [] => 0
  | p :: l => hits d c k l + if c = p.dev d ∧ k = p.kd then 1 else 0

theorem oweT_hits (d c : Dev nD) (k : Kd) : ∀ l : List Pay, oweT d l (cell c k) () = hits d c k l * amountK (some k)
  | [] => (Nat.zero_mul _).symm
  | p :: l => by
    rw [oweT, Pi.add_apply, Finsupp.add_apply, oweT_hits d c k l, hits, Nat.add_mul, tallyAt_apply]
    congr 1
    by_cases h : c = p.dev d ∧ k = p.kd
    · rw [if_pos h, if_pos ⟨cell_eq_iff.mpr h, rfl⟩, Nat.one_mul, h.2]
    · rw [if_neg h, if_neg fun h' => h (cell_eq_iff.mp h'.1), Nat.zero_mul]

theorem hits_recv (c : Dev nD) (σ : Fin 4) (h : Fin 6) : ∑ d : Dev nD, hits d c (kRecv σ h) plan = 1 := by revert c σ h; decide +kernel
theorem hits_free (c : Dev nD) (σ : Fin 4) (h : Fin 5) : ∑ d : Dev nD, hits d c (kFree σ h) plan = 1 := by revert c σ h; decide +kernel
theorem hits_bar (c : Dev nD) : ∑ d : Dev nD, hits d c kBar plan = 2 := by revert c; decide +kernel

/-- What every device owes when the kernels start. -/
abbrev O₀ (c : Dev nD) : CellTallies nD τ sig Unit := oweT c plan

theorem launch_at (c : Dev nD) (k : Kd) (n : ℕ) (h : ∑ d : Dev nD, hits d c k plan = n) :
    tallyOn (cell c k) (launchCredit (Pipeline.owing O₀) 0 (cell c k)) = (tallyAt (cell c k) () (n * amountK (some k)) : CellTallies nD τ sig Unit) := by
  unfold tallyAt
  refine congrArg _ (Finsupp.ext fun u => ?_)
  cases u
  rw [Pipeline.launchCredit_owing, Finsupp.single_eq_same, Finset.sum_congr rfl fun d _ => oweT_hits d c k plan, ← Finset.sum_mul, h]

theorem credits_intro (c : Dev nD) : (Pipeline.launchCred O₀ c : sProp 𝕄) ⊢ credits c := by
  have e : (Pipeline.launchCred O₀ c : sProp 𝕄) ⊢ bigSep Finset.univ fun k : Kd => cred (tallyOn (cell c k) (launchCredit (Pipeline.owing O₀) 0 (cell c k))) := by
    unfold Pipeline.launchCred
    have e2 := bigSep_map (s := Finset.univ) ⟨sl, sl_injective⟩ (Φ := fun s : SemLoc sig => (cred (tallyOn ((c : Thread nD τ), s) (launchCredit (Pipeline.owing O₀) 0 ((c : Thread nD τ), s))) : sProp 𝕄))
    exact (bigSep_subset (Finset.subset_univ _)).trans (le_of_eq e2)
  refine e.trans ?_
  rw [bigSep_Kd]
  unfold credits
  rw [launch_at c kBar 2 (hits_bar c),
    bigSep_congr (s := Finset.univ) fun (x : Fin 4 × Fin 6) _ => congrArg (fun T => (cred T : sProp 𝕄)) (launch_at c (kRecv x.1 x.2) 1 (hits_recv c x.1 x.2)),
    bigSep_congr (s := Finset.univ) fun (y : Fin 4 × Fin 5) _ => congrArg (fun T => (cred T : sProp 𝕄)) (launch_at c (kFree y.1 y.2) 1 (hits_free c y.1 y.2))]
  simp only [amountK, Nat.one_mul, Nat.mul_one]
  iintro ⟨⟨⟨-, Hr⟩, Hf⟩, Hb⟩
  isplitl [Hb]; · iexact Hb
  isplitl [Hr]; · iexact Hr
  iexact Hf

end Cert.KernelIdeal.Own

end

end
-- ==== Proof.Launch.lean ====
/- The run of the whole program: the launch deals, every device runs the body, the arrays are written back. -/
module

public import proofs.«01_k».proof.Proof.Deal
public import Idealize.ShloMosaic.Lib.Pipeline.CollectiveSegs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → FVec F S1536x768 .f32) (B : Dev nD → FVec F S768x1536 .f32)

variable (m : (ℓ : Loc nD τ sig) → Buf (Elt F) ℓ) (ρ : Dev nD → PrngReg)

def s₀ : MemSt nD τ sig (Elt F) := ⟨m, fun _ => 0, ρ⟩

/-- What each device stages of the operands: its own arrays, whole. -/
def inA (c : Dev nD) : FVec F S1536x768 .f32 := (win0_0.blk (0 : Fin 1)).view.read (Elt F) ((s₀ m ρ).mem ((c : Thread nD τ).loc main_arg0))
def inB (c : Dev nD) : FVec F S768x1536 .f32 := (win0_1.blk (0 : Fin 1)).view.read (Elt F) ((s₀ m ρ).mem ((c : Thread nD τ).loc main_arg1))

/-! ## The pipeline's data -/

/-- What a device holds when its body starts, its debts aside. -/
def opening (c : Dev nD) : sProp 𝕄 := iprop(∃ K, know (inA m ρ) (inB m ρ) K ∗ kit c)

def slots (c : Dev nD) : sProp 𝕄 :=
  iprop((someSlot c 0 0 ∗ someSlot c 0 1) ∗ (someSlot c 1 0 ∗ someSlot c 1 1) ∗ (someSlot c 2 0 ∗ someSlot c 2 1) ∗ (someSlot c 3 0 ∗ someSlot c 3 1))

def Φ₀ (c : Dev nD) : sProp 𝕄 := iprop(opening m ρ c ∗ slots c)
def Φ₁ (c : Dev nD) : sProp 𝕄 := iprop(semVal (cell c kBar) 0 ∗ Pipeline.ownSems0 osem c ∗ slots c)

def result (c : Dev nD) : FVec F S1536x1536 .f32 := outC c (fin (inA m ρ) (inB m ρ) c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => inA m ρ c
    | ⟨1, _⟩ => inB m ρ c
    | ⟨2, _⟩ => result m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; rw [View.set_whole]; rfl

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

theorem bigSep_W (Φ : Fin cfg0.W → sProp 𝕄) : bigSep Finset.univ Φ = iprop(Φ (0 : Fin 3) ∗ Φ (1 : Fin 3) ∗ Φ (2 : Fin 3)) := bigSep_W0 Φ

theorem before_0 (c : Dev nD) (d) : (dats m ρ 0 c).before (0 : Fin 3) t0_0 d = inA m ρ c := by
  unfold Pipeline.Dat.before; rw [if_pos (show (cfg0.win (0 : Fin 3)).fetch t0_0 = true from rfl)]; rfl
theorem before_1 (c : Dev nD) (d) : (dats m ρ 0 c).before (1 : Fin 3) t0_0 d = inB m ρ c := by
  unfold Pipeline.Dat.before; rw [if_pos (show (cfg0.win (1 : Fin 3)).fetch t0_0 = true from rfl)]; rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (inA m ρ c) ∗ stg c cc0_stg1_0 (inB m ρ c) ∗ stg c cc0_stg2_0 (result m ρ c))

set_option maxRecDepth 4000 in
theorem sound_body (c : Dev nD) : bodyPre m ρ c ⊢ run c (bodyP aM bM oM c) fun _ => bodyPost m ρ c := by
  unfold bodyPre Φ₀ opening kit slots
  iintro ⟨⟨⟨%K, #HK, Hbar, Hst⟩, Hsl⟩, Ho, ⟨%d0, Ha⟩, ⟨%d1, Hb⟩, ⟨%d2, Hout⟩⟩
  rw [before_0, before_1]
  icases Ha with ⟨%fa, %ea, Ha⟩
  icases Hb with ⟨%fb, %eb, Hb⟩
  icases Hout with ⟨%fo, %eo, Hout⟩
  subst ea eb
  iapply (body_wp (inA m ρ) (inB m ρ) K c (fun k j x => fo (atBlk c k j x))) $$ [-]
  unfold given Pipeline.Dat.owesAt Pipeline.owesWithin
  icases Ho with ⟨%W, -, Ho⟩
  isplitr; · iexact HK
  isplitl [Ho Hbar Hst Hsl]
  · isplitl [Ho]
    · unfold owe; iexists W; iexact Ho
    isplitl [Hbar]; · iexact Hbar
    isplitl [Hst]; · iexact Hst
    iexact Hsl
  isplitl [Ha]; · unfold aPts; iexact Ha
  isplitl [Hb]; · unfold bPts; iexact Hb
  isplitl [Hout]
  · unfold oPts; rw [← outC_surj c fo]; iexact Hout
  unfold left bodyPost Φ₁ slots aPts bPts oPts owe Pipeline.Dat.owesAt Pipeline.owesWithin
  iintro ⟨⟨⟨%W', Ho⟩, Hz, Hst, Hsl⟩, Ha, Hb, Hout⟩
  isplitl [Hz Hst Hsl]
  · isplitl [Hz]; · iexact Hz
    isplitl [Hst]; · iapply (sems_back c); iexact Hst
    iexact Hsl
  isplitl [Ho]
  · iexists W'
    isplitr; · ipureintro; exact fun _ _ => Or.inl trivial
    iexact Ho
  isplitl [Ha]
  · iexists _; isplitr; · (ipureintro; rfl)
    iexact Ha
  isplitl [Hb]
  · iexists _; isplitr; · (ipureintro; rfl)
    iexact Hb
  iexists _; isplitr; · (ipureintro; rfl)
  iexact Hout

set_option maxRecDepth 100000 in
theorem body_obligation (c : Dev nD) : Pipeline.BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ
    (cc0_body aM (Memref.isWhole_whole _) bM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5 cc0_scratch6
      cc0_scratch7 cc0_scratch8 cc0_scratch9 cc0_scratch10 cc0_scratch11 cc0_scratch12 cc0_scratch13 cc0_scratch14 cc0_scratch15) (fun _ => bodyPost m ρ c)
  rw [body_eq, wp_deviceId]
  exact sound_body m ρ c

/-! ## The launch -/

set_option maxRecDepth 100000 in
theorem ownSemFacts : Pipeline.OwnSemFacts cfg0.spec osem := by decide +kernel
theorem share_eq (c : Dev nD) (w : Fin cfg0.W) : (dats m ρ 0 c).share w = fullShare := by unfold Pipeline.Dat.share; split <;> rfl

theorem cell_injective : Function.Injective fun ck : Dev nD × Kd => cell ck.1 ck.2 := fun p q h =>
  Prod.ext (cell_eq_iff.mp h).1 (cell_eq_iff.mp h).2
def allCells : Finset (GSem nD τ sig) := Finset.univ.map ⟨_, cell_injective⟩

/-- Every duty of every semaphore: one each, and the barrier's second. -/
abbrev tokOf (cj : Dev nD × (Kd ⊕ Unit)) : GSem nD τ sig × ℕ × Bool := match cj.2 with
  | .inl k => (cell cj.1 k, 0, false)
  | .inr _ => (cell cj.1 kBar, 0, true)
theorem tokOf_injective : Function.Injective tokOf := by
  rintro ⟨c, k | u⟩ ⟨c', k' | u'⟩ h
  · obtain ⟨rfl, rfl⟩ := cell_eq_iff.mp (congrArg Prod.fst h); rfl
  · exact absurd (congrArg (fun x => x.2.2) h) Bool.false_ne_true
  · exact absurd (congrArg (fun x => x.2.2) h) Bool.false_ne_true.symm
  · obtain ⟨rfl, -⟩ := cell_eq_iff.mp (congrArg Prod.fst h); rfl
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

section Alloc
variable (A : Dev nD → FVec F S1536x768 .f32) (B : Dev nD → FVec F S768x1536 .f32)

/-- What the launch deals a device. -/
def G (c : Dev nD) : sProp 𝕄 :=
  iprop((bigSep Finset.univ fun k : Kd => roundState ER (sched A B) (cell c k) 0)
    ∗ (bigSep Finset.univ fun k : Kd => iprop(atPos ER (cell c k) 0 ∅ 0 ∗ reached ER (cell c k) 0)) ∗ toks c)
/-- What a device has once every semaphore's invariant is known to all. -/
def linear (c : Dev nD) : sProp 𝕄 := iprop((bigSep Finset.univ fun k : Kd => atPos ER (cell c k) 0 ∅ 0) ∗ payToks c)
def G' (c : Dev nD) : sProp 𝕄 := iprop(∃ K, records A B K ∗ linear c)

theorem fund : BI.own (ER (initOf allCells allToks)) ⊢ (|==> bigSep Finset.univ (G A B) : sProp 𝕄) := by
  have hX (Φ : GSem nD τ sig → sProp 𝕄) : bigSep allCells Φ = bigSep Finset.univ fun c : Dev nD => bigSep Finset.univ fun k : Kd => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => (bigSep_univ_sum _).trans ?_
    exact congrArg (BI.sep _) (bigSep_univ_eq_bigSepL [()] (by decide) (by decide) _)
  iintro HX
  imod (Rounds.fund ER (sched A B) allCells allToks) $$ HX with ⟨Hst, Hr, Hat, Htok⟩
  imodintro
  ihave Hst' := (Entails.of_eq (hX fun g => roundState ER (sched A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the one that outlives the kernels. -/
theorem unscopedSems0_eq (c : Dev nD) : (unscopedSems0 c : sProp 𝕄) = semVal (cell c kBar) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k : Kd => iprop(∃ κ : ℕ, cellInv ER (sched A B) κ (cell c k)))
          ∗ (bigSep Finset.univ fun k : Kd => iprop(atPos ER (cell c k) 0 ∅ 0 ∗ reached ER (cell c k) 0)) ∗ toks c) := by
  have e : (bigSep Finset.univ fun k : Kd => (semVal (cell c k) 0 : sProp 𝕄)) = iprop(Pipeline.ownSems0 osem c ∗ semVal (cell c kBar) 0) := by
    refine (bigSep_univ_sum _).trans ?_
    exact congrArg (BI.sep _) (bigSep_univ_eq_bigSepL [()] (by decide) (by decide) _)
  unfold G
  rw [unscopedSems0_eq]
  iintro ⟨Hos, Hus, Hst, Hat, Htok⟩
  ihave Hv := (Entails.of_eq e.symm) $$ [Hos Hus]
  · isplitl [Hos] <;> iassumption
  imod (show iprop((bigSep Finset.univ fun k : Kd => semVal (cell c k) 0) ∗ bigSep Finset.univ fun k : Kd => roundState ER (sched A B) (cell c k) 0)
      ⊢ (|={Set.univ}=> bigSep Finset.univ fun k : Kd => iprop(∃ κ : ℕ, cellInv ER (sched A B) κ (cell c k)) : sProp 𝕄) from by
        rw [← bigSep_sep']
        exact (bigSep_mono fun k _ => (Rounds.body_intro ER (sched A B) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Kd => iprop(∃ κ : ℕ, cellInv ER (sched A B) κ (cell c k)))
          ∗ (bigSep Finset.univ fun k : Kd => iprop(atPos ER (cell c k) 0 ∅ 0 ∗ reached ER (cell c k) 0)) ∗ toks c) : sProp 𝕄)
      ⊢ bigSep Finset.univ (G' A B) := by
  rw [bigSep_sep', bigSep_sep', ← bigSep_univ_prod (fun ck : Dev nD × Kd => iprop(∃ κ : ℕ, cellInv ER (sched A B) κ (cell ck.1 ck.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (κ : ℕ) => (cellInv ER (sched A B) κ (cell ck.1 ck.2) : sProp 𝕄))) $$ HI
  icases HK with ⟨%K, #HI⟩
  ihave Htk := (toks_around (F := F)) $$ Htok
  iapply (share_out (R := records A B K) (Φ := linear) fun c _ => show iprop(records A B K ∗ linear c) ⊢ G' A B c from by
    unfold G'; iintro H; iexists K; iexact H)
  isplitr
  · unfold records; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end Alloc

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inA m ρ) (inB m ρ) c)
      ⊢ |={Set.univ}=> iprop(opening m ρ c ∗ emp) := by
  iintro ⟨-, #Hlev, Hcr, -, HG⟩
  ihave Hc := (credits_intro (F := F) c) $$ Hcr
  unfold G' linear
  icases HG with ⟨%K, #HR, Hat, Htok⟩
  imodintro
  unfold opening
  isplitl
  · iexists K
    isplitr
    · unfold know; isplitl; · iexact HR
      iexact Hlev
    iapply (kit_intro c)
    isplitl [Hat]; · iexact Hat
    isplitl [Htok]; · iexact Htok
    iexact Hc
  · iempintro

theorem phi0_intro (c : Dev nD) :
    iprop(opening m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ slots
  rw [slots_eq0, slots_eq1, slots_eq2, slots_eq3]
  iintro ⟨Hs, -, H⟩
  isplitl [Hs]; · iexact Hs
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ slots
  rw [slots_eq0, slots_eq1, slots_eq2, slots_eq3]

/-- The staging semaphores lie below everything. -/
theorem lv_stage (c : Dev nD) (w : Fin cfg0.W) (s : Fin (cfg0.win w).nbuf) : lv ((c : Thread nD τ), .dma ((cfg0.win w).sem s)) () = 0 := by
  have h : ∀ (w : Fin cfg0.W) (s : Fin (cfg0.win w).nbuf) (k : Kd), sl k ≠ .dma ((cfg0.win w).sem s) := by decide +kernel
  unfold lv kind Function.partialInv
  rw [dif_neg]
  rintro ⟨k, hk⟩
  exact h w s k hk

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ plan fun p _ => by rw [lv_stage]; exact p.lv_pos
    · exact mayWait_of c _ [] fun p hp => absurd hp List.not_mem_nil

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every semaphore at zero: every fair run of the four kernels ends, with the operands
    unchanged, the result as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inA m ρ) (inB m ρ)) (G' := G' (inA m ρ) (inB m ρ)) (u₀ := u₀)
    (hu₀ := by
      unfold u₀
      iintro Hu
      ihave H := (ownU_pair _ _) $$ Hu
      icases H with ⟨HP, HX⟩
      imod (fund (inA m ρ) (inB m ρ)) $$ HX with HG
      imodintro
      isplitl [HP] <;> iassumption)
    (hglob := glob (inA m ρ) (inB m ρ))
    (hA := fun _ _ => rfl) (hpf := fun _ k => k.elim0)
    (X := opening m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Own

end

end
-- ==== Proof.Value.lean ====
/- The result in exact arithmetic: every block the streams bring round is the sum over the devices of their products. -/
module

public import proofs.«01_k».proof.Proof.Launch
public import Idealize.ShloMosaic.Lib.MatmulPlain
public import Idealize.ShloMosaic.Lib.StackMember
public import Idealize.ShloMosaic.Lib.Layout
public import Idealize.ShloMosaic.Lib.Pipeline.ValueKit.Geometry

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open scoped BigOperators
open Idealize.ShloMosaic.ValueIdx
open Idealize.SL.BI.BIBase Idealize.SL.BI.Laws Idealize.SL.ProofMode Idealize.SL.Sem
open Idealize.ShloMosaic.Rounds

variable (A : Dev nD → FVec Ideal S1536x768 .f32) (B : Dev nD → FVec Ideal S768x1536 .f32)

/-- A device's share of an element of the result: the sum over its part of the contracted axis. -/
def part (c : Dev nD) (i : S1536x1536.Idx) : EReal := ∑ q : Fin 768, A c (ix2 (i 0) q) * B c (ix2 q (i 1))
/-- The element: the sum of the devices' shares. -/
def full (i : S1536x1536.Idx) : EReal := ∑ c : Dev nD, part A B c i

/-- A product of the kernel, with its zero accumulator, as a sum. -/
theorem prod_at {M L N : ℕ} (d : DotDims ⟨2, ![M, L]⟩ ⟨2, ![L, N]⟩ ⟨2, ![M, N]⟩) (hd : d = DotDims.plain M L N)
    (l : FVec Ideal ⟨2, ![M, L]⟩ .f32) (r : FVec Ideal ⟨2, ![L, N]⟩ .f32) (z : (⟨2, ![M, N]⟩ : Shape).Idx) :
    (matmul d none l r (constant _ .f32 0x00000000#32) : FVec Ideal _ .f32) z = ∑ q : Fin L, l (ix2 (z 0) q) * r (ix2 q (z 1)) := by
  subst hd
  have hz : z = ix2 (z 0) (z 1) := by funext a; match a with | ⟨0, _⟩ => rfl | ⟨1, _⟩ => rfl
  conv_lhs => rw [hz]
  refine (Ideal.matmul_plain_apply none l r _ (z 0) (z 1)).trans ?_
  show Ideal.ofBits .f32 0x00000000#32 + _ = _
  rw [Ideal.ofBits_zero_f32, zero_add]

/-- The kernel's product of a row block with some columns is, element by element, the device's share. -/
theorem prod_part {N : ℕ} (d : DotDims S384x768 ⟨2, ![768, N]⟩ ⟨2, ![384, N]⟩) (hd : d = DotDims.plain 384 768 N) (c : Dev nD) (k j : Fin 4) (x : S384x384.Idx)
    (off : Fin 2 → Nat) (h : ∀ i, off i + S384x768.size i ≤ S1536x768.size i) (hoff : off = ![384 * ((c.val + k.val) % 4), 0])
    (y y' : FVec Ideal ⟨2, ![768, N]⟩ .f32) (ey : y' = y) (z : (⟨2, ![384, N]⟩ : Shape).Idx) (hz : (z 0).val = (x 0).val)
    (hy : ∀ q : Fin 768, y (ix2 q (z 1)) = B c (ix2 q (atBlk c k j x 1))) :
    (matmul d none (shapeCast S384x768 (rowsOf (A c) off h) shapeCasts_S384x768_S384x768 : FVec Ideal S384x768 .f32) y' (constant _ .f32 0x00000000#32)
      : FVec Ideal _ .f32) z = part A B c (atBlk c k j x) := by
  subst hoff ey
  rw [shapeCast_self]
  refine (prod_at d hd _ _ z).trans (Finset.sum_congr rfl fun q _ => ?_)
  rw [hy q]
  refine congrArg (· * B c (ix2 q (atBlk c k j x 1))) (congrArg (A c) (funext fun a => ?_))
  match a with
  | ⟨0, _⟩ => exact Fin.ext (by show 384 * ((c.val + k.val) % 4) + 1 * (z 0).val = 384 * ((c.val + k.val) % 4) + (x 0).val; omega)
  | ⟨1, _⟩ => exact Fin.ext (by show 0 + 1 * q.val = q.val; omega)

theorem wide_part (c : Dev nD) (k j : Fin 4) (x : S384x384.Idx) (off : Fin 2 → Nat) (h : ∀ i, off i + S384x768.size i ≤ S1536x768.size i)
    (hoff : off = ![384 * ((c.val + k.val) % 4), 0]) : wideBlk (wholePay (rowsOf (A c) off h) (B c)) j x = part A B c (atBlk c k j x) :=
  prod_part A B _ rfl c k j x off h hoff (B c) _ (shapeCast_self _ _) _ (by show 0 + 1 * (x 0).val = _; omega) fun q =>
    congrArg (B c) (funext fun a => by
      match a with
      | ⟨0, _⟩ => rfl
      | ⟨1, _⟩ => exact Fin.ext (by show 384 * j.val + 1 * (x 1).val = 384 * j.val + (x 1).val; omega))

theorem half_part (c : Dev nD) (k j : Fin 4) (x : S384x384.Idx) (off : Fin 2 → Nat) (h : ∀ i, off i + S384x768.size i ≤ S1536x768.size i)
    (hoff : off = ![384 * ((c.val + k.val) % 4), 0]) (n : Nat) (offB : Fin 2 → Nat) (hB : ∀ i, offB i + S768x768.size i ≤ S768x1536.size i)
    (hoffB : offB = ![0, n]) (hn : n + 384 * (j.val % 2) = 384 * j.val) :
    halfBlk (halfPay (rowsOf (A c) off h) (halfOf (B c) offB hB)) j x = part A B c (atBlk c k j x) :=
  prod_part A B _ rfl c k j x off h hoff (halfOf (B c) offB hB) _ (shapeCast_self _ _) _ (by show 0 + 1 * (x 0).val = _; omega) fun q =>
    congrArg (B c) (funext fun a => by
      subst hoffB
      match a with
      | ⟨0, _⟩ => exact Fin.ext (by show 0 + 1 * q.val = q.val; omega)
      | ⟨1, _⟩ => exact Fin.ext (by show n + 1 * (384 * (j.val % 2) + 1 * (x 1).val) = 384 * j.val + (x 1).val; omega))

theorem first_part (c : Dev nD) (j : Fin 4) (x : S384x384.Idx) : firstBlk A B c j x = part A B c (atBlk c (kk j 0) j x) := by
  unfold firstBlk slotPay dotPay
  rw [shapeCast_shapeCast]
  exact prod_part A B _ rfl c (kk j 0) j x _ _ (by revert j c; decide +kernel) (quarterOf (B c) j) _ (shapeCast_self _ _) x rfl fun q =>
    congrArg (B c) (funext fun a => by
      match a with
      | ⟨0, _⟩ => exact Fin.ext (by show 0 + 1 * q.val = q.val; omega)
      | ⟨1, _⟩ => exact Fin.ext (by show 384 * j.val + 1 * (x 1).val = 384 * j.val + (x 1).val; omega))

/-- Which of a device's products has which columns. -/
theorem cases_kk : ∀ k j : Fin 4, k ≠ 0 → k ≠ 2 → k ≠ kk j 0 → (k = 1 ∧ 384 * (j.val % 2) = 384 * j.val) ∨ (k = 3 ∧ 768 + 384 * (j.val % 2) = 384 * j.val) := by decide

/-- Every block the device multiplies is its share of that block of the result. -/
theorem P_part (c : Dev nD) (k j : Fin 4) (x : S384x384.Idx) : P A B c k j x = part A B c (atBlk c k j x) := by
  unfold P
  split_ifs with h0 h2 hk h1
  · subst h0; exact wide_part A B c 0 j x _ _ (by revert c; decide +kernel)
  · subst h2; exact wide_part A B c 2 j x _ _ (by revert c; decide +kernel)
  · subst hk; exact first_part A B c j x
  · subst h1
    rcases cases_kk 1 j h0 h2 hk with ⟨-, e⟩ | ⟨e, -⟩
    · exact half_part A B c 1 j x _ _ (by revert c; decide +kernel) 0 _ _ rfl (by omega)
    · exact absurd e (by decide)
  · rcases cases_kk k j h0 h2 hk with ⟨e, -⟩ | ⟨rfl, e⟩
    · exact absurd e h1
    · exact half_part A B c 3 j x _ _ (by revert c; decide +kernel) 768 _ _ rfl e

/-! ## Round the ring -/

/-- A stream's block one step up the ring, one step earlier, is the same block of the result. -/
theorem atBlk_up (σ t : Fin 4) (c : Dev nD) (x : S384x384.Idx) : atBlk (upD σ c) (kk σ t) σ x = atBlk c (kk σ (t + 1)) σ x := by
  have h : ∀ (σ t : Fin 4) (c : Dev nD), ((upD σ c).val + (kk σ t).val) % 4 = (c.val + (kk σ (t + 1)).val) % 4 := by decide +kernel
  funext a
  match a with
  | ⟨0, _⟩ => exact Fin.ext (congrArg (fun n => 384 * n + (x 0).val) (h σ t c))
  | ⟨1, _⟩ => rfl

/-- Four steps up the ring pass every device. -/
theorem sum_around (σ : Fin 4) (c : Dev nD) (f : Dev nD → EReal) :
    f (upD σ (upD σ (upD σ c))) + f (upD σ (upD σ c)) + f (upD σ c) + f c = ∑ d : Dev nD, f d := by
  have h : ∀ (σ : Fin 4) (c : Dev nD), ∃ e : Fin 4 ≃ Dev nD, e 0 = upD σ (upD σ (upD σ c)) ∧ e 1 = upD σ (upD σ c) ∧ e 2 = upD σ c ∧ e 3 = c := by
    intro σ c
    have inj : ∀ (σ : Fin 4) (c : Dev nD), Function.Injective (![upD σ (upD σ (upD σ c)), upD σ (upD σ c), upD σ c, c] : Fin 4 → Dev nD) := by decide +kernel
    exact ⟨Equiv.ofBijective _ (Finite.injective_iff_bijective.mp (inj σ c)), rfl, rfl, rfl, rfl⟩
  obtain ⟨e, e0, e1, e2, e3⟩ := h σ c
  rw [← Equiv.sum_comp e, Fin.sum_univ_four, e0, e1, e2, e3]

theorem X_succ (σ : Fin 4) (n : ℕ) (hn : n < 3) (c : Dev nD) (x : S384x384.Idx) :
    X A B σ (n + 1) c x = (X A B σ n (upD σ c) x + P A B c (kk σ (Fin.ofNat 4 (n + 1))) σ x : EReal) := by
  show (if n < 3 then addf (X A B σ n (upD σ c)) (P A B c (kk σ (Fin.ofNat 4 (n + 1))) σ) else X A B σ n (upD σ c)) x = _
  rw [if_pos hn]; rfl
theorem X_pass (σ : Fin 4) (n : ℕ) (hn : ¬ n < 3) (c : Dev nD) : X A B σ (n + 1) c = X A B σ n (upD σ c) := if_neg hn

/-- After three hops a stream's block is summed over all devices. -/
theorem X_full (σ : Fin 4) (c : Dev nD) (x : S384x384.Idx) : X A B σ 3 c x = full A B (atBlk c (kk σ 3) σ x) := by
  rw [X_succ A B σ 2 (by decide), X_succ A B σ 1 (by decide), X_succ A B σ 0 (by decide)]
  show (P A B _ (kk σ 0) σ x + P A B _ (kk σ 1) σ x + P A B _ (kk σ 2) σ x + P A B _ (kk σ 3) σ x : EReal) = _
  rw [P_part, P_part, P_part, P_part, atBlk_up σ 0, atBlk_up σ 1, atBlk_up σ 2, atBlk_up σ (0 + 1), atBlk_up σ (1 + 1), atBlk_up σ (0 + 1 + 1)]
  exact sum_around σ c fun d => part A B d (atBlk c (kk σ 3) σ x)

/-- And it stays so on its way to the others. -/
theorem fin_full (c : Dev nD) : fin A B c = fun k j x => full A B (atBlk c k j x) := by
  funext k j x
  have hk : ∀ k j : Fin 4, k ≠ kk j 0 → k ≠ kk j 1 → k ≠ kk j 2 → k = kk j 3 := by decide
  unfold fin
  split_ifs with h0 h1 h2
  · subst h0; rw [X_pass A B j 3 (by decide), X_full, atBlk_up j 3]
    rfl
  · subst h1; rw [X_pass A B j 4 (by decide), X_pass A B j 3 (by decide), X_full, atBlk_up j 3, atBlk_up j (3 + 1)]
    rfl
  · subst h2; rw [X_pass A B j 5 (by decide), X_pass A B j 4 (by decide), X_pass A B j 3 (by decide), X_full, atBlk_up j 3, atBlk_up j (3 + 1), atBlk_up j (3 + 1 + 1)]
    rfl
  · rw [hk k j h0 h1 h2, X_full]

/-- Every element of a device's result is the sum of all devices' shares. -/
theorem out_full (c : Dev nD) : outC c (fin A B c) = full A B := by
  rw [fin_full]; exact (outC_surj (F := Ideal) c (full A B)).symm

/-! ## Against one product -/

/-- The devices' parts of the contracted axis are the axis. -/
theorem full_eq (Y : FVec Ideal ⟨2, ![1536, 3072]⟩ .f32) (Z : FVec Ideal ⟨2, ![3072, 1536]⟩ .f32)
    (hA : ∀ c, A c = Layout.block ⟨2, ![1536, 768]⟩ ⟨2, ![1536, 3072]⟩ 1 4 c Y) (hB : ∀ c, B c = Layout.block ⟨2, ![768, 1536]⟩ ⟨2, ![3072, 1536]⟩ 0 4 c Z) :
    full A B = fun i => ∑ q : Fin (4 * 768), Y (ix2 (i 0) q) * Z (ix2 q (i 1)) := by
  funext i
  unfold full part
  rw [← Equiv.sum_comp finProdFinEquiv, Fintype.sum_prod_type]
  refine Finset.sum_congr rfl fun c _ => Finset.sum_congr rfl fun q _ => ?_
  rw [hA, hB, Layout.block_apply, Layout.block_apply]
  refine congrArg₂ (· * ·) (congrArg Y (funext fun a => ?_)) (congrArg Z (funext fun a => ?_)) <;> match a with
  | ⟨0, _⟩ => exact Fin.ext (by first | rfl | (show c.val * 768 + q.val = q.val + 768 * c.val; omega))
  | ⟨1, _⟩ => exact Fin.ext (by first | rfl | (show c.val * 768 + q.val = q.val + 768 * c.val; omega))

/-- One product of the whole operands, element by element. -/
theorem dot_at (d : DotDims ⟨2, ![1536, 3072]⟩ ⟨2, ![3072, 1536]⟩ S1536x1536) (hd : d = DotDims.plain 1536 3072 1536)
    (Y : FVec Ideal ⟨2, ![1536, 3072]⟩ .f32) (Z : FVec Ideal ⟨2, ![3072, 1536]⟩ .f32) :
    (Host.dotGeneral d none Y Z : FVec Ideal S1536x1536 .f32) = fun i => ∑ q : Fin 3072, Y (ix2 (i 0) q) * Z (ix2 q (i 1)) := by
  subst hd
  funext i
  have hi : i = ix2 (i 0) (i 1) := by funext a; match a with | ⟨0, _⟩ => rfl | ⟨1, _⟩ => rfl
  conv_lhs => rw [hi]
  exact Idealize.ShloMosaic.StackMember.dotGeneral_plain_apply none Y Z (i 0) (i 1)

/-! ## The arrays after the run -/

section Run
variable {F : FTy → Type} [FloatOps F] (m : (ℓ : Loc nD τ sig) → Buf (Elt F) ℓ) (ρ : Dev nD → PrngReg)

theorem inA_eq (c : Dev nD) : inA m ρ c = m ((c : Thread nD τ).loc main_arg0) := by
  funext i
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega
theorem inB_eq (c : Dev nD) : inB m ρ c = m ((c : Thread nD τ).loc main_arg1) := by
  funext i
  refine congrArg (m ((c : Thread nD τ).loc main_arg1)) (funext fun a => Fin.ext ?_)
  match a with
  | ⟨0, _⟩ => show 0 + 1 * (i 0).val = (i 0).val; omega
  | ⟨1, _⟩ => show 0 + 1 * (i 1).val = (i 1).val; omega

theorem finalA_in (c : Dev nD) (w : Fin cfg0.W) (h : (cfg0.win w).isOut = false) : finalA m ρ c w = m ((cfg0.win w).arr.view.loc (c : Thread nD τ)) :=
  (dats (F := F) m ρ 0 c).arrAt_in w h _

theorem finalA_out (c : Dev nD) : finalA m ρ c (2 : Fin 3) = result m ρ c :=
  (dats (F := F) m ρ 0 c).arrAt_eq_of_after_last (2 : Fin 3) t0_0 (by decide +kernel) _ fun _ => rfl

/-- From any memory with every semaphore at zero: every fair run ends, each device's result the blocks its streams
    brought, its operands unchanged, and every semaphore at zero. -/
theorem run_result : θ_run defs (onTc (τ := τ) (main (F := F))) ⟨m, fun _ => 0, ρ⟩ (fun r => (∀ c : Dev nD,
      r.2.mem ((c.tc : Thread nD τ).loc main_v1) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (finalA_out m ρ c),
    (h.1 c (0 : Fin 3)).trans (finalA_in m ρ c (0 : Fin 3) rfl), (h.1 c (1 : Fin 3)).trans (finalA_in m ρ c (1 : Fin 3) rfl)⟩, h.2⟩) (run_main m ρ)

end Run

/-- In exact arithmetic a device's result is the one product of the whole operands of which the devices hold blocks. -/
theorem result_eq (m : (ℓ : Loc nD τ sig) → Buf (Elt Ideal) ℓ) (ρ : Dev nD → PrngReg)
    (d : DotDims ⟨2, ![1536, 3072]⟩ ⟨2, ![3072, 1536]⟩ S1536x1536) (hd : d = DotDims.plain 1536 3072 1536)
    (Y : FVec Ideal ⟨2, ![1536, 3072]⟩ .f32) (Z : FVec Ideal ⟨2, ![3072, 1536]⟩ .f32)
    (h : ∀ c : Dev nD, m ((c.tc : Thread nD τ).loc main_arg0) = Layout.block ⟨2, ![1536, 768]⟩ ⟨2, ![1536, 3072]⟩ 1 4 c Y
      ∧ m ((c.tc : Thread nD τ).loc main_arg1) = Layout.block ⟨2, ![768, 1536]⟩ ⟨2, ![3072, 1536]⟩ 0 4 c Z) (c : Dev nD) :
    result m ρ c = Host.dotGeneral d none Y Z :=
  (out_full (inA m ρ) (inB m ρ) c).trans ((full_eq _ _ Y Z (fun c => (inA_eq m ρ c).trans (h c).1) fun c => (inB_eq m ρ c).trans (h c).2).trans
    (dot_at d hd Y Z).symm)

end Cert.KernelIdeal.Own

end

end
-- ==== Proof.lean ====
/- The claims: every program runs, keeps its arguments and ends with its semaphores at zero (`quiescent_…`); the idealized
   kernel is the kernel's own text (`preserves_…`); and in exact arithmetic every device's result is the product of the
   whole operands (`algebraic_…`). The run of the kernel is proved once, for any float values (`run_result`); the kernel
   as printed and its idealization are the same text. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The bodies of the kernel and of its idealization are the same text. -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So are the programs' tables of bodies. -/
theorem defs_same : Cert.Kernel.defs (F := Bits) = Cert.KernelIdeal.defs (F := Bits) := by
  unfold Cert.Kernel.defs Cert.KernelIdeal.defs
  exact congrArg _ defs₀_same

/-- The kernel runs, its operands are unchanged, its semaphores end at zero. -/
theorem frame_kernel : Cert.quiescent_Kernel := fun m ρ _ => by
  rw [defs_same]
  exact (θ_run Cert.KernelIdeal.defs _ _).mono (fun _ h => ⟨fun c => (h.1 c).2, h.2⟩) (Cert.KernelIdeal.Own.run_result (F := Bits) m ρ)

/-- So does its idealization. -/
theorem frame_kernelIdeal : Cert.quiescent_KernelIdeal := fun m ρ _ =>
  (θ_run Cert.KernelIdeal.defs _ _).mono (fun _ h => ⟨fun c => (h.1 c).2, h.2⟩) (Cert.KernelIdeal.Own.run_result (F := Ideal) m ρ)

/-- So does the reference, which has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Every device's result is the reference's product. -/
theorem algebraic : Cert.algebraic_KernelIdeal_ReferenceIdeal := fun m g m' g' _ hag => by
  refine ⟨Host.dotGeneral (F := Ideal) (φ₁ := .f32) (φ₂ := .f32) Cert.ReferenceIdeal.dot_S1536x3072_S3072x1536_S1536x1536_1_0_0_1_n_n none
    (m' ((0 : Dev Cert.ReferenceIdeal.nD).tc.loc Cert.ReferenceIdeal.main_arg0)) (m' ((0 : Dev Cert.ReferenceIdeal.nD).tc.loc Cert.ReferenceIdeal.main_arg1)), ?_, ?_⟩
  · exact (θ_run Cert.KernelIdeal.defs _ _).mono
      (fun _ h c => ⟨(h.1 c).1.trans (Cert.KernelIdeal.Own.result_eq m g _ rfl _ _ hag c), (h.1 c).2⟩) (Cert.KernelIdeal.Own.run_result (F := Ideal) m g)
  · exact (θ_run Cert.ReferenceIdeal.defs _ _).mono (fun _ h => h 0) (Cert.ReferenceIdeal.Value.run (F := Ideal) m' g')

/-- The claims together. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
